-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_on_grid [hPre_scores_on_grid : Cert.Pre_scores_on_grid.Facts] (m : (ℓ : Loc Cert.KernelIdeal.nD Cert.KernelIdeal.τ Cert.KernelIdeal.sig) → Buf (Elt Ideal) ℓ) : Prop :=
  ∀ c : Dev Cert.KernelIdeal.nD,
    (Cert.Pre_scores_on_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_on_grid [hPre_scores_on_grid : Cert.Pre_scores_on_grid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_on_grid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scores_on_grid [hKernelIdeal : Cert.KernelIdeal.Facts] [hPre_scores_on_grid : Cert.Pre_scores_on_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_on_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scores_on_grid [hReferenceIdeal : Cert.ReferenceIdeal.Facts] [hPre_scores_on_grid : Cert.Pre_scores_on_grid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_on_grid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scores_on_grid [hKernelIdeal : Cert.KernelIdeal.Facts] [hReferenceIdeal : Cert.ReferenceIdeal.Facts] [hPre_scores_on_grid : Cert.Pre_scores_on_grid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_on_grid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scores_on_grid : Cert.Pre_scores_on_grid.Facts),
    quiescent_Kernel (hKernel := hKernel)
    ∧ quiescent_KernelIdeal (hKernelIdeal := hKernelIdeal)
    ∧ quiescent_KernelIdeal_pre_scores_on_grid (hKernelIdeal := hKernelIdeal) (hPre_scores_on_grid := hPre_scores_on_grid)
    ∧ quiescent_ReferenceIdeal (hReferenceIdeal := hReferenceIdeal)
    ∧ quiescent_ReferenceIdeal_pre_scores_on_grid (hReferenceIdeal := hReferenceIdeal) (hPre_scores_on_grid := hPre_scores_on_grid)
    ∧ preserves_Kernel_KernelIdeal
    ∧ algebraic_KernelIdeal_ReferenceIdeal_pre_scores_on_grid (hKernelIdeal := hKernelIdeal) (hReferenceIdeal := hReferenceIdeal) (hPre_scores_on_grid := hPre_scores_on_grid)
-- ==== Pre_scores_on_grid.lean ====
abbrev S8x96x224x224 : Shape := ⟨4, ![8, 96, 224, 224]⟩
abbrev S8x3136 : Shape := ⟨2, ![8, 3136]⟩
abbrev S_ : Shape := ⟨0, ![]⟩

class Facts : Prop where
  bcast_S_S8x3136 : S_.BroadcastsInDim S8x3136 (![] : Fin 0 → Fin S8x3136.rank)
  reducesTo_S8x3136_S_d0_1 : S8x3136.ReducesTo [0, 1] S_
  h_S_ : 0 < S_.numel

variable [Facts]

def fn {F : FTy → Type} [FloatOps F] (main_arg0 : FVec F S8x96x224x224 .f32) (main_arg1 : FVec F S8x3136 .f32) : IVec S_ 1 :=
  let main_cst : FVec F S_ .f32 := constant S_ .f32 0x4D800000#32
  let main_v0 : FVec F S8x3136 .f32 := broadcastInDim S8x3136 ![] bcast_S_S8x3136 main_cst
  let main_v1 : FVec F S8x3136 .f32 := mulf main_arg1 main_v0
  let main_cst_0 : FVec F S_ .f32 := constant S_ .f32 0x00000000#32
  let main_v2 : FVec F S8x3136 .f32 := broadcastInDim S8x3136 ![] bcast_S_S8x3136 main_cst_0
  let main_v3 : IVec S8x3136 1 := cmpf .oge main_arg1 main_v2
  let main_cst_1 : FVec F S_ .f32 := constant S_ .f32 0x3F800000#32
  let main_v4 : FVec F S8x3136 .f32 := broadcastInDim S8x3136 ![] bcast_S_S8x3136 main_cst_1
  let main_v5 : IVec S8x3136 1 := cmpf .olt main_arg1 main_v4
  let main_v6 : IVec S8x3136 1 := andi main_v3 main_v5
  let main_v7 : FVec F S8x3136 .f32 := Host.floor main_v1
  let main_v8 : IVec S8x3136 1 := cmpf .oeq main_v7 main_v1
  let main_v9 : IVec S8x3136 1 := andi main_v6 main_v8
  let main_c : IVec S_ 1 := constantI S_ 1 1#1
  let main_v10 : IVec S_ 1 := (fun x v => Host.reduce IntOp.andi x v reducesTo_S8x3136_S_d0_1 h_S_) main_v9 main_c
  main_v10
-- ==== Kernel.lean ====
abbrev S8x96x224x224 : Shape := ⟨4, ![8, 96, 224, 224]⟩
abbrev S8x3136 : Shape := ⟨2, ![8, 3136]⟩
abbrev S_ : Shape := ⟨0, ![]⟩
abbrev S8x3200 : Shape := ⟨2, ![8, 3200]⟩
abbrev S8x56x56 : Shape := ⟨3, ![8, 56, 56]⟩
abbrev S224 : Shape := ⟨1, ![224]⟩
abbrev S224x1 : Shape := ⟨2, ![224, 1]⟩
abbrev S56 : Shape := ⟨1, ![56]⟩
abbrev S1x56 : Shape := ⟨2, ![1, 56]⟩
abbrev S224x56 : Shape := ⟨2, ![224, 56]⟩
abbrev S8x224x224 : Shape := ⟨3, ![8, 224, 224]⟩
abbrev S8 : Shape := ⟨1, ![8]⟩
abbrev S8x1 : Shape := ⟨2, ![8, 1]⟩
abbrev S1x1 : Shape := ⟨2, ![1, 1]⟩
abbrev S1x56x56 : Shape := ⟨3, ![1, 56, 56]⟩
abbrev S56x56 : Shape := ⟨2, ![56, 56]⟩
abbrev S224x224 : Shape := ⟨2, ![224, 224]⟩
abbrev S1x224x224 : Shape := ⟨3, ![1, 224, 224]⟩
abbrev S1x1x224x224 : Shape := ⟨4, ![1, 1, 224, 224]⟩
abbrev S8x1x96x224x224 : Shape := ⟨5, ![8, 1, 96, 224, 224]⟩

abbrev nBuf : Space → Nat
  | .hbm => 34
  | .vmem => 4
  | .smem => 0
  | _ => 0

abbrev bufTy : (tb : Table) → Fin (tcTables nBuf tb) → BufTy
  | .hbm, ⟨0, _⟩ => ⟨S8x96x224x224, .f32⟩
  | .hbm, ⟨1, _⟩ => ⟨S8x3136, .f32⟩
  | .hbm, ⟨2, _⟩ => ⟨S_, .f32⟩
  | .hbm, ⟨3, _⟩ => ⟨S_, .f32⟩
  | .hbm, ⟨4, _⟩ => ⟨S8x3200, .f32⟩
  | .hbm, ⟨5, _⟩ => ⟨S8x56x56, .f32⟩
  | .hbm, ⟨6, _⟩ => ⟨S224, .i32⟩
  | .hbm, ⟨7, _⟩ => ⟨S224x1, .i32⟩
  | .hbm, ⟨8, _⟩ => ⟨S_, .i32⟩
  | .hbm, ⟨9, _⟩ => ⟨S_, .i32⟩
  | .hbm, ⟨10, _⟩ => ⟨S224x1, .i32⟩
  | .hbm, ⟨11, _⟩ => ⟨S224x1, .i32⟩
  | .hbm, ⟨12, _⟩ => ⟨S224x1, .i32⟩
  | .hbm, ⟨13, _⟩ => ⟨S_, .i32⟩
  | .hbm, ⟨14, _⟩ => ⟨S224x1, .i32⟩
  | .hbm, ⟨15, _⟩ => ⟨S224x1, .i1⟩
  | .hbm, ⟨16, _⟩ => ⟨S224x1, .i32⟩
  | .hbm, ⟨17, _⟩ => ⟨S224x1, .i32⟩
  | .hbm, ⟨18, _⟩ => ⟨S_, .i32⟩
  | .hbm, ⟨19, _⟩ => ⟨S224x1, .i32⟩
  | .hbm, ⟨20, _⟩ => ⟨S224x1, .i1⟩
  | .hbm, ⟨21, _⟩ => ⟨S224x1, .i1⟩
  | .hbm, ⟨22, _⟩ => ⟨S_, .i32⟩
  | .hbm, ⟨23, _⟩ => ⟨S224x1, .i32⟩
  | .hbm, ⟨24, _⟩ => ⟨S224x1, .i32⟩
  | .hbm, ⟨25, _⟩ => ⟨S224x1, .i32⟩
  | .hbm, ⟨26, _⟩ => ⟨S56, .i32⟩
  | .hbm, ⟨27, _⟩ => ⟨S1x56, .i32⟩
  | .hbm, ⟨28, _⟩ => ⟨S224x56, .i32⟩
  | .hbm, ⟨29, _⟩ => ⟨S224x56, .i32⟩
  | .hbm, ⟨30, _⟩ => ⟨S224x56, .i1⟩
  | .hbm, ⟨31, _⟩ => ⟨S224x56, .f32⟩
  | .hbm, ⟨32, _⟩ => ⟨S8x96x224x224, .f32⟩
  | .hbm, ⟨33, _⟩ => ⟨S8x1x96x224x224, .f32⟩
  | .local _ .vmem, ⟨0, _⟩ => ⟨S8x3200, .f32⟩
  | .local _ .vmem, ⟨1, _⟩ => ⟨S8x56x56, .f32⟩
  | .local _ .vmem, ⟨2, _⟩ => ⟨S224x56, .f32⟩
  | .local _ .vmem, ⟨3, _⟩ => ⟨S8x224x224, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c14_i32 : BitVec 32 := 14#32
  let v12 : BitVec 32 := Scalar.addi c0_i32 c14_i32
  let c1_i32 : BitVec 32 := 1#32
  ⟨c0_i32, v12, c1_i32⟩
@[reducible] def k0_t2_loop : Scf.Loop 32 :=
  let c0_i32_23 : BitVec 32 := 0#32
  let c24_i32 : BitVec 32 := 24#32
  let v57 : BitVec 32 := Scalar.addi c0_i32_23 c24_i32
  let c1_i32_24 : BitVec 32 := 1#32
  ⟨c0_i32_23, v57, c1_i32_24⟩
@[reducible] def k0_t3_loop : Scf.Loop 32 :=
  let c0_i32_39 : BitVec 32 := 0#32
  let c96_i32 : BitVec 32 := 96#32
  let v85 : BitVec 32 := Scalar.addi c0_i32_39 c96_i32
  let c1_i32_40 : BitVec 32 := 1#32
  ⟨c0_i32_39, v85, c1_i32_40⟩
def k0_off1 (k0_t3 : Fin k0_t3_loop.trips) : Fin 4 → Nat :=
  let c0_i32_150 : BitVec 32 := 0#32
  let c0_i32_39 : BitVec 32 := 0#32
  let c1_i32_40 : BitVec 32 := 1#32
  let arg6 : BitVec 32 := Scf.iv c0_i32_39 c1_i32_40 k0_t3
  let c0_i32_151 : BitVec 32 := 0#32
  let c0_i32_152 : BitVec 32 := 0#32
  ![0, arg6.toNat, 0, 0]
@[reducible] def k0_t4_loop : Scf.Loop 32 :=
  let c0_i32_53 : BitVec 32 := 0#32
  let c96_i32_54 : BitVec 32 := 96#32
  let v110 : BitVec 32 := Scalar.addi c0_i32_53 c96_i32_54
  let c1_i32_55 : BitVec 32 := 1#32
  ⟨c0_i32_53, v110, c1_i32_55⟩
def k0_off2 (k0_t4 : Fin k0_t4_loop.trips) : Fin 4 → Nat :=
  let c1_i32_150 : BitVec 32 := 1#32
  let c0_i32_53 : BitVec 32 := 0#32
  let c1_i32_55 : BitVec 32 := 1#32
  let arg6 : BitVec 32 := Scf.iv c0_i32_53 c1_i32_55 k0_t4
  let c0_i32_151 : BitVec 32 := 0#32
  let c0_i32_152 : BitVec 32 := 0#32
  ![1, arg6.toNat, 0, 0]
@[reducible] def k0_t5_loop : Scf.Loop 32 :=
  let c0_i32_68 : BitVec 32 := 0#32
  let c96_i32_69 : BitVec 32 := 96#32
  let v135 : BitVec 32 := Scalar.addi c0_i32_68 c96_i32_69
  let c1_i32_70 : BitVec 32 := 1#32
  ⟨c0_i32_68, v135, c1_i32_70⟩
def k0_off3 (k0_t5 : Fin k0_t5_loop.trips) : Fin 4 → Nat :=
  let c2_i32_149 : BitVec 32 := 2#32
  let c0_i32_68 : BitVec 32 := 0#32
  let c1_i32_70 : BitVec 32 := 1#32
  let arg6 : BitVec 32 := Scf.iv c0_i32_68 c1_i32_70 k0_t5
  let c0_i32_150 : BitVec 32 := 0#32
  let c0_i32_151 : BitVec 32 := 0#32
  ![2, arg6.toNat, 0, 0]
@[reducible] def k0_t6_loop : Scf.Loop 32 :=
  let c0_i32_83 : BitVec 32 := 0#32
  let c96_i32_84 : BitVec 32 := 96#32
  let v160 : BitVec 32 := Scalar.addi c0_i32_83 c96_i32_84
  let c1_i32_85 : BitVec 32 := 1#32
  ⟨c0_i32_83, v160, c1_i32_85⟩
def k0_off4 (k0_t6 : Fin k0_t6_loop.trips) : Fin 4 → Nat :=
  let c3_i32_149 : BitVec 32 := 3#32
  let c0_i32_83 : BitVec 32 := 0#32
  let c1_i32_85 : BitVec 32 := 1#32
  let arg6 : BitVec 32 := Scf.iv c0_i32_83 c1_i32_85 k0_t6
  let c0_i32_150 : BitVec 32 := 0#32
  let c0_i32_151 : BitVec 32 := 0#32
  ![3, arg6.toNat, 0, 0]
@[reducible] def k0_t7_loop : Scf.Loop 32 :=
  let c0_i32_98 : BitVec 32 := 0#32
  let c96_i32_99 : BitVec 32 := 96#32
  let v185 : BitVec 32 := Scalar.addi c0_i32_98 c96_i32_99
  let c1_i32_100 : BitVec 32 := 1#32
  ⟨c0_i32_98, v185, c1_i32_100⟩
def k0_off5 (k0_t7 : Fin k0_t7_loop.trips) : Fin 4 → Nat :=
  let c4_i32_149 : BitVec 32 := 4#32
  let c0_i32_98 : BitVec 32 := 0#32
  let c1_i32_100 : BitVec 32 := 1#32
  let arg6 : BitVec 32 := Scf.iv c0_i32_98 c1_i32_100 k0_t7
  let c0_i32_150 : BitVec 32 := 0#32
  let c0_i32_151 : BitVec 32 := 0#32
  ![4, arg6.toNat, 0, 0]
@[reducible] def k0_t8_loop : Scf.Loop 32 :=
  let c0_i32_113 : BitVec 32 := 0#32
  let c96_i32_114 : BitVec 32 := 96#32
  let v210 : BitVec 32 := Scalar.addi c0_i32_113 c96_i32_114
  let c1_i32_115 : BitVec 32 := 1#32
  ⟨c0_i32_113, v210, c1_i32_115⟩
def k0_off6 (k0_t8 : Fin k0_t8_loop.trips) : Fin 4 → Nat :=
  let c5_i32_149 : BitVec 32 := 5#32
  let c0_i32_113 : BitVec 32 := 0#32
  let c1_i32_115 : BitVec 32 := 1#32
  let arg6 : BitVec 32 := Scf.iv c0_i32_113 c1_i32_115 k0_t8
  let c0_i32_150 : BitVec 32 := 0#32
  let c0_i32_151 : BitVec 32 := 0#32
  ![5, arg6.toNat, 0, 0]
@[reducible] def k0_t9_loop : Scf.Loop 32 :=
  let c0_i32_128 : BitVec 32 := 0#32
  let c96_i32_129 : BitVec 32 := 96#32
  let v235 : BitVec 32 := Scalar.addi c0_i32_128 c96_i32_129
  let c1_i32_130 : BitVec 32 := 1#32
  ⟨c0_i32_128, v235, c1_i32_130⟩
def k0_off7 (k0_t9 : Fin k0_t9_loop.trips) : Fin 4 → Nat :=
  let c6_i32_149 : BitVec 32 := 6#32
  let c0_i32_128 : BitVec 32 := 0#32
  let c1_i32_130 : BitVec 32 := 1#32
  let arg6 : BitVec 32 := Scf.iv c0_i32_128 c1_i32_130 k0_t9
  let c0_i32_150 : BitVec 32 := 0#32
  let c0_i32_151 : BitVec 32 := 0#32
  ![6, arg6.toNat, 0, 0]
@[reducible] def k0_t10_loop : Scf.Loop 32 :=
  let c0_i32_143 : BitVec 32 := 0#32
  let c96_i32_144 : BitVec 32 := 96#32
  let v260 : BitVec 32 := Scalar.addi c0_i32_143 c96_i32_144
  let c1_i32_145 : BitVec 32 := 1#32
  ⟨c0_i32_143, v260, c1_i32_145⟩
def k0_off8 (k0_t10 : Fin k0_t10_loop.trips) : Fin 4 → Nat :=
  let c7_i32_149 : BitVec 32 := 7#32
  let c0_i32_143 : BitVec 32 := 0#32
  let c1_i32_145 : BitVec 32 := 1#32
  let arg6 : BitVec 32 := Scf.iv c0_i32_143 c1_i32_145 k0_t10
  let c0_i32_150 : BitVec 32 := 0#32
  let c0_i32_151 : BitVec 32 := 0#32
  ![7, arg6.toNat, 0, 0]
@[reducible] def k0_t11_loop : Scf.Loop 32 :=
  let c0_i32_147 : BitVec 32 := 0#32
  let c768_i32 : BitVec 32 := 768#32
  let v261 : BitVec 32 := Scalar.addi c0_i32_147 c768_i32
  let c1_i32_148 : BitVec 32 := 1#32
  ⟨c0_i32_147, v261, c1_i32_148⟩
abbrev stage0_0 : Fin 1 → Memref sig .tc .vmem S8x3200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x56x56 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S224x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x96x224x224 : Shape := ⟨4, ![8, 96, 224, 224]⟩
abbrev S8x3136 : Shape := ⟨2, ![8, 3136]⟩
abbrev S8x1x3136 : Shape := ⟨3, ![8, 1, 3136]⟩
abbrev S_ : Shape := ⟨0, ![]⟩
abbrev S8x1x1 : Shape := ⟨3, ![8, 1, 1]⟩
abbrev S8x1 : Shape := ⟨2, ![8, 1]⟩
abbrev S1 : Shape := ⟨1, ![1]⟩
abbrev S1x1x1 : Shape := ⟨3, ![1, 1, 1]⟩
abbrev S8x1x1x56x56 : Shape := ⟨5, ![8, 1, 1, 56, 56]⟩
abbrev S8x1x1x56x4x56 : Shape := ⟨6, ![8, 1, 1, 56, 4, 56]⟩
abbrev S8x1x1x224x56 : Shape := ⟨5, ![8, 1, 1, 224, 56]⟩
abbrev S8x1x1x224x56x4 : Shape := ⟨6, ![8, 1, 1, 224, 56, 4]⟩
abbrev S8x1x1x224x224 : Shape := ⟨5, ![8, 1, 1, 224, 224]⟩
abbrev S8x1x96x224x224 : Shape := ⟨5, ![8, 1, 96, 224, 224]⟩

abbrev nBuf : Space → Nat
  | .hbm => 89
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8x3136, .f32⟩
  | .hbm, ⟨2, _⟩ => ⟨S8x1x3136, .f32⟩
  | .hbm, ⟨3, _⟩ => ⟨S8x1x3136, .f32⟩
  | .hbm, ⟨4, _⟩ => ⟨S8x1x3136, .f32⟩
  | .hbm, ⟨5, _⟩ => ⟨S_, .f32⟩
  | .hbm, ⟨6, _⟩ => ⟨S_, .f32⟩
  | .hbm, ⟨7, _⟩ => ⟨S8x1x3136, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S8x1x3136, .f32⟩
  | .hbm, ⟨13, _⟩ => ⟨S8x1x3136, .f32⟩
  | .hbm, ⟨14, _⟩ => ⟨S_, .f32⟩
  | .hbm, ⟨15, _⟩ => ⟨S8x1x3136, .f32⟩
  | .hbm, ⟨16, _⟩ => ⟨S8x1x3136, .i1⟩
  | .hbm, ⟨17, _⟩ => ⟨S8x1x3136, .i32⟩
  | .hbm, ⟨18, _⟩ => ⟨S_, .i32⟩
  | .hbm, ⟨19, _⟩ => ⟨S8x1, .i32⟩
  | .hbm, ⟨20, _⟩ => ⟨S_, .i32⟩
  | .hbm, ⟨21, _⟩ => ⟨S8x1, .i32⟩
  | .hbm, ⟨22, _⟩ => ⟨S8x1, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S8x1, .i32⟩
  | .hbm, ⟨27, _⟩ => ⟨S8x1, .i32⟩
  | .hbm, ⟨28, _⟩ => ⟨S_, .i32⟩
  | .hbm, ⟨29, _⟩ => ⟨S8x1, .i32⟩
  | .hbm, ⟨30, _⟩ => ⟨S8x1, .i32⟩
  | .hbm, ⟨31, _⟩ => ⟨S_, .i32⟩
  | .hbm, ⟨32, _⟩ => ⟨S8x1, .i32⟩
  | .hbm, ⟨33, _⟩ => ⟨S8x1, .i32⟩
  | .hbm, ⟨34, _⟩ => ⟨S8x1x1, .i32⟩
  | .hbm, ⟨35, _⟩ => ⟨S_, .i32⟩
  | .hbm, ⟨36, _⟩ => ⟨S8x1x1, .i32⟩
  | .hbm, ⟨37, _⟩ => ⟨S8x1x1, .i1⟩
  | .hbm, ⟨38, _⟩ => ⟨S_, .i32⟩
  | .hbm, ⟨39, _⟩ => ⟨S8x1x1, .i32⟩
  | .hbm, ⟨40, _⟩ => ⟨S8x1x1, .i32⟩
  | .hbm, ⟨41, _⟩ => ⟨S8x1x1, .i32⟩
  | .hbm, ⟨42, _⟩ => ⟨S1, .i32⟩
  | .hbm, ⟨43, _⟩ => ⟨S_, .i32⟩
  | .hbm, ⟨44, _⟩ => ⟨S8x1x1, .i32⟩
  | .hbm, ⟨45, _⟩ => ⟨S8x1x1, .i1⟩
  | .hbm, ⟨46, _⟩ => ⟨S1x1x1, .i32⟩
  | .hbm, ⟨47, _⟩ => ⟨S8x1x1, .i32⟩
  | .hbm, ⟨48, _⟩ => ⟨S8x1x1, .i1⟩
  | .hbm, ⟨49, _⟩ => ⟨S8x1x1, .i1⟩
  | .hbm, ⟨50, _⟩ => ⟨S_, .i1⟩
  | .hbm, ⟨51, _⟩ => ⟨S8x1, .i1⟩
  | .hbm, ⟨52, _⟩ => ⟨S8x1x1, .f32⟩
  | .hbm, ⟨53, _⟩ => ⟨S8x1x1, .i1⟩
  | .hbm, ⟨54, _⟩ => ⟨S_, .f32⟩
  | .hbm, ⟨55, _⟩ => ⟨S8x1x1, .f32⟩
  | .hbm, ⟨56, _⟩ => ⟨S8x1x1, .f32⟩
  | .hbm, ⟨57, _⟩ => ⟨S_, .f32⟩
  | .hbm, ⟨58, _⟩ => ⟨S8x1x3136, .f32⟩
  | .hbm, ⟨59, _⟩ => ⟨S8x1x3136, .f32⟩
  | .hbm, ⟨60, _⟩ => ⟨S_, .f32⟩
  | .hbm, ⟨61, _⟩ => ⟨S8x1x3136, .f32⟩
  | .hbm, ⟨62, _⟩ => ⟨S8x1x3136, .f32⟩
  | .hbm, ⟨63, _⟩ => ⟨S8x1x3136, .f32⟩
  | .hbm, ⟨64, _⟩ => ⟨S8x1x3136, .f32⟩
  | .hbm, ⟨65, _⟩ => ⟨S8x1x3136, .f32⟩
  | .hbm, ⟨66, _⟩ => ⟨S_, .f32⟩
  | .hbm, ⟨67, _⟩ => ⟨S8x1x3136, .f32⟩
  | .hbm, ⟨68, _⟩ => ⟨S8x1x3136, .f32⟩
  | .hbm, ⟨69, _⟩ => ⟨S8x1x3136, .f32⟩
  | .hbm, ⟨70, _⟩ => ⟨S8x1x3136, .f32⟩
  | .hbm, ⟨71, _⟩ => ⟨S_, .f32⟩
  | .hbm, ⟨72, _⟩ => ⟨S8x1x3136, .f32⟩
  | .hbm, ⟨73, _⟩ => ⟨S8x1x3136, .f32⟩
  | .hbm, ⟨74, _⟩ => ⟨S_, .f32⟩
  | .hbm, ⟨75, _⟩ => ⟨S8x1x3136, .f32⟩
  | .hbm, ⟨76, _⟩ => ⟨S8x1x3136, .f32⟩
  | .hbm, ⟨77, _⟩ => ⟨S_, .f32⟩
  | .hbm, ⟨78, _⟩ => ⟨S8x1x3136, .f32⟩
  | .hbm, ⟨79, _⟩ => ⟨S8x1x3136, .i1⟩
  | .hbm, ⟨80, _⟩ => ⟨S8x1x3136, .f32⟩
  | .hbm, ⟨81, _⟩ => ⟨S8x1x3136, .f32⟩
  | .hbm, ⟨82, _⟩ => ⟨S8x1x3136, .f32⟩
  | .hbm, ⟨83, _⟩ => ⟨S8x1x1x56x56, .f32⟩
  | .hbm, ⟨84, _⟩ => ⟨S8x1x1x56x4x56, .f32⟩
  | .hbm, ⟨85, _⟩ => ⟨S8x1x1x224x56, .f32⟩
  | .hbm, ⟨86, _⟩ => ⟨S8x1x1x224x56x4, .f32⟩
  | .hbm, ⟨87, _⟩ => ⟨S8x1x1x224x224, .f32⟩
  | .hbm, ⟨88, _⟩ => ⟨S8x1x96x224x224, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call2_call0_cst : Ref sig .tc := ⟨.hbm, 5, rfl⟩
abbrev main_call2_call0_v0 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_c_3 : Ref sig .tc := ⟨.hbm, 24, rfl⟩
abbrev main_call3_v0 : Ref sig .tc := ⟨.hbm, 25, rfl⟩
abbrev main_call3_v1 : Ref sig .tc := ⟨.hbm, 26, rfl⟩
abbrev main_call3_v2 : Ref sig .tc := ⟨.hbm, 27, rfl⟩
abbrev main_call3_v3 : Ref sig .tc := ⟨.hbm, 28, rfl⟩
abbrev main_call3_v4 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call4_c : Ref sig .tc := ⟨.hbm, 35, rfl⟩
abbrev main_call4_v0 : Ref sig .tc := ⟨.hbm, 36, rfl⟩
abbrev main_call4_v1 : Ref sig .tc := ⟨.hbm, 37, rfl⟩
abbrev main_call4_c_0 : Ref sig .tc := ⟨.hbm, 38, rfl⟩
abbrev main_call4_v2 : Ref sig .tc := ⟨.hbm, 39, rfl⟩
abbrev main_call4_v3 : Ref sig .tc := ⟨.hbm, 40, rfl⟩
abbrev main_call4_v4 : Ref sig .tc := ⟨.hbm, 41, rfl⟩
abbrev main_call4_c_1 : Ref sig .tc := ⟨.hbm, 42, rfl⟩
abbrev main_call4_c_2 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_v9 : Ref sig .tc := ⟨.hbm, 48, rfl⟩
abbrev main_call4_v10 : Ref sig .tc := ⟨.hbm, 49, rfl⟩
abbrev main_call4_c_3 : Ref sig .tc := ⟨.hbm, 50, rfl⟩
abbrev main_call4_v11 : Ref sig .tc := ⟨.hbm, 51, rfl⟩
abbrev main_call4_v12 : Ref sig .tc := ⟨.hbm, 52, rfl⟩
abbrev main_call4_v13 : Ref sig .tc := ⟨.hbm, 53, rfl⟩
abbrev main_call4_cst : Ref sig .tc := ⟨.hbm, 54, rfl⟩
abbrev main_call4_v14 : Ref sig .tc := ⟨.hbm, 55, rfl⟩
abbrev main_v19 : Ref sig .tc := ⟨.hbm, 56, rfl⟩
abbrev main_cst_5 : Ref sig .tc := ⟨.hbm, 57, rfl⟩
abbrev main_v20 : Ref sig .tc := ⟨.hbm, 58, rfl⟩
abbrev main_v21 : Ref sig .tc := ⟨.hbm, 59, rfl⟩
abbrev main_cst_6 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_7 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_8 : Ref sig .tc := ⟨.hbm, 71, rfl⟩
abbrev main_v31 : Ref sig .tc := ⟨.hbm, 72, rfl⟩
abbrev main_v32 : Ref sig .tc := ⟨.hbm, 73, rfl⟩
abbrev main_cst_9 : Ref sig .tc := ⟨.hbm, 74, rfl⟩
abbrev main_v33 : Ref sig .tc := ⟨.hbm, 75, rfl⟩
abbrev main_v34 : Ref sig .tc := ⟨.hbm, 76, rfl⟩
abbrev main_cst_10 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩

abbrev nD : Nat := 1
abbrev τ : Topo := Topo.v7x

variable {F : FTy → Type} [FloatOps F]
-- ==== Proof.SlotsIdeal.lean ====
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Batch
public import Idealize.ShloMosaic.Lib.Ring
public import Idealize.ShloMosaic.Lib.VecWindow
public import Idealize.ShloMosaic.Lib.Tactic

/-! # The blocks the kernel's transfers read and write

The scratch array is eight slots (one per batch entry), the result array 768 blocks (batch entry `b`,
channel `ch`). Slot `b` is copied into blocks `96 * b … 96 * b + 95`. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Slot `b` lies in the scratch array. -/
theorem slot_inb (b : Fin 8) : ∀ a, (![b.val, 0, 0] : Fin 3 → Nat) a + S1x224x224.size a ≤ S8x224x224.size a := by
  have := b.isLt; intro a; fin_cases a
  · show b.val + 1 ≤ 8; omega
  · show 0 + 224 ≤ 224; omega
  · show 0 + 224 ≤ 224; omega

/-- Block `t` lies in the result array. -/
theorem out_inb (t : Fin 768) : ∀ a, (![t.val / 96, t.val % 96, 0, 0] : Fin 4 → Nat) a + S1x1x224x224.size a ≤ S8x96x224x224.size a := by
  have := t.isLt; intro a; fin_cases a
  · show t.val / 96 + 1 ≤ 8; omega
  · show t.val % 96 + 1 ≤ 96; omega
  · show 0 + 224 ≤ 224; omega
  · show 0 + 224 ≤ 224; omega

/-- Slot `b` of the scratch array as a 224 × 224 tile: what a transfer reads. -/
def slot (b : Fin 8) : Memref sig .tc .vmem S224x224 .f32 :=
  ((Memref.whole cc0_scratch0).slice (Rect.unit (s := S8x224x224) ![b.val, 0, 0] S1x224x224.size (slot_inb b)) (fun _ => rfl)).squeeze S224x224 squeezes_S1x224x224_S224x224

/-- Block `t` of the result array as a 224 × 224 tile: what a transfer writes. -/
def blk (t : Fin 768) : Memref sig .tc .hbm S224x224 .f32 :=
  ((Memref.whole main_v11).slice (Rect.unit (s := S8x96x224x224) ![t.val / 96, t.val % 96, 0, 0] S1x1x224x224.size (out_inb t)) (fun _ => rfl)).squeeze S224x224 squeezes_S1x1x224x224_S224x224

/-- The entries of slot `b`. -/
def slotSet (b : Fin 8) : Finset S8x224x224.Idx := (Rect.unit (s := S8x224x224) ![b.val, 0, 0] S1x224x224.size (slot_inb b)).set
/-- The entries of block `t`. -/
def blkSet (t : Fin 768) : Finset S8x96x224x224.Idx := (Rect.unit (s := S8x96x224x224) ![t.val / 96, t.val % 96, 0, 0] S1x1x224x224.size (out_inb t)).set

theorem slot_set (b : Fin 8) : (slot b).view.set = slotSet b := by
  unfold slot; exact (View.set_reshape _ _).trans (View.set_slice_whole _ _)

theorem blk_set (t : Fin 768) : (blk t).view.set = blkSet t := by
  unfold blk; exact (View.set_reshape _ _).trans (View.set_slice_whole _ _)

/-- An entry lies in slot `b` exactly when its first coordinate is `b`. -/
theorem mem_slot (b : Fin 8) (i : S8x224x224.Idx) : i ∈ slotSet b ↔ (i 0 : Nat) = b.val := by
  rw [slotSet, Rect.mem_set_unit]
  constructor
  · intro h; have h0 := h 0
    change b.val ≤ (i 0 : Nat) ∧ (i 0 : Nat) < b.val + 1 at h0; omega
  · intro h a; have := (i a).isLt; fin_cases a
    · change b.val ≤ (i 0 : Nat) ∧ (i 0 : Nat) < b.val + 1; omega
    · change 0 ≤ (i 1 : Nat) ∧ (i 1 : Nat) < 0 + 224; exact ⟨Nat.zero_le _, by have h1 : (i 1 : Nat) < 224 := (i 1).isLt; omega⟩
    · change 0 ≤ (i 2 : Nat) ∧ (i 2 : Nat) < 0 + 224; exact ⟨Nat.zero_le _, by have h1 : (i 2 : Nat) < 224 := (i 2).isLt; omega⟩

/-- An entry lies in block `t` exactly when its first two coordinates are `t / 96` and `t % 96`. -/
theorem mem_blk (t : Fin 768) (i : S8x96x224x224.Idx) : i ∈ blkSet t ↔ (i 0 : Nat) = t.val / 96 ∧ (i 1 : Nat) = t.val % 96 := by
  rw [blkSet, Rect.mem_set_unit]
  constructor
  · intro h; have h0 := h 0; have h1 := h 1
    change t.val / 96 ≤ (i 0 : Nat) ∧ (i 0 : Nat) < t.val / 96 + 1 at h0
    change t.val % 96 ≤ (i 1 : Nat) ∧ (i 1 : Nat) < t.val % 96 + 1 at h1; omega
  · rintro ⟨h0, h1⟩ a; fin_cases a
    · change t.val / 96 ≤ (i 0 : Nat) ∧ (i 0 : Nat) < t.val / 96 + 1; omega
    · change t.val % 96 ≤ (i 1 : Nat) ∧ (i 1 : Nat) < t.val % 96 + 1; omega
    · change 0 ≤ (i 2 : Nat) ∧ (i 2 : Nat) < 0 + 224; exact ⟨Nat.zero_le _, by have h1 : (i 2 : Nat) < 224 := (i 2).isLt; omega⟩
    · change 0 ≤ (i 3 : Nat) ∧ (i 3 : Nat) < 0 + 224; exact ⟨Nat.zero_le _, by have h1 : (i 3 : Nat) < 224 := (i 3).isLt; omega⟩

theorem slot_disjoint (b b' : Fin 8) (h : b ≠ b') : Disjoint (slotSet b) (slotSet b') := by
  rw [Finset.disjoint_left]; intro i hi hi'
  exact h (Fin.ext (((mem_slot b i).mp hi).symm.trans ((mem_slot b' i).mp hi')))

theorem blk_disjoint (t t' : Fin 768) (h : t ≠ t') : Disjoint (blkSet t) (blkSet t') := by
  rw [Finset.disjoint_left]; intro i hi hi'
  have h1 := (mem_blk t i).mp hi; have h2 := (mem_blk t' i).mp hi'
  exact h (Fin.ext (by omega))

theorem slot_cover : (Finset.univ.biUnion slotSet) = Finset.univ := by
  ext i
  simp only [Finset.mem_biUnion, Finset.mem_univ, true_and, iff_true]
  exact ⟨⟨(i 0 : Nat), (i 0).isLt⟩, (mem_slot _ i).mpr rfl⟩

theorem blk_cover : (Finset.univ.biUnion blkSet) = Finset.univ := by
  ext i
  simp only [Finset.mem_biUnion, Finset.mem_univ, true_and, iff_true]
  have h0 : (i 0 : Nat) < 8 := (i 0).isLt
  have h1 : (i 1 : Nat) < 96 := (i 1).isLt
  exact ⟨⟨(i 0 : Nat) * 96 + (i 1 : Nat), by omega⟩, (mem_blk _ i).mpr ⟨by dsimp only; omega, by dsimp only; omega⟩⟩

/-! ## The arrays' contents by tiles -/

/-- The tile index of row `y`, column `z`. -/
def tix (y z : Fin 224) : S1x224x224.Idx := fun a => match a with | 0 => (0 : Fin 1) | 1 => y | 2 => z

/-- The scratch array holding tile `T b` in slot `b`. -/
def scr (T : Fin 8 → FVec F S1x224x224 .f32) : S8x224x224.Idx → Elt F .f32 := fun i => T (i 0) (tix (i 1) (i 2))

/-- The result array holding tile `T b` in every block of batch entry `b`. -/
def res (T : Fin 8 → FVec F S1x224x224 .f32) : S8x96x224x224.Idx → Elt F .f32 := fun i => T (i 0) (tix (i 2) (i 3))

/-- A store of tile `T b` to slot `b` makes the slot hold it. -/
theorem store_slot (T : Fin 8 → FVec F S1x224x224 .f32) (b : Fin 8) (f : S8x224x224.Idx → Elt F .f32) (i : S8x224x224.Idx) (hi : i ∈ slotSet b) :
    ((Memref.whole cc0_scratch0).access (Rect.unit (s := S8x224x224) ![b.val, 0, 0] S1x224x224.size (slot_inb b))).write (Elt F) f (T b) Finset.univ i = scr T i := by
  have h0 := (mem_slot b i).mp hi
  have hi0 : i 0 = b := Fin.ext h0
  have he : i = ((Memref.whole cc0_scratch0).access (Rect.unit (s := S8x224x224) ![b.val, 0, 0] S1x224x224.size (slot_inb b))).emb (tix (i 1) (i 2)) := by
    funext a; apply Fin.ext; fin_cases a
    · change (i 0 : Nat) = b.val + 1 * 0; omega
    · change (i 1 : Nat) = 0 + 1 * (i 1 : Nat); omega
    · change (i 2 : Nat) = 0 + 1 * (i 2 : Nat); omega
  refine (congrArg _ he).trans ((View.write_emb_of_mem _ _ (Finset.mem_univ _)).trans ?_)
  unfold scr; rw [hi0]; rfl

/-- The index of a 224 × 224 tile. -/
def sqix (y z : Fin 224) : S224x224.Idx := fun a => match a with | 0 => y | 1 => z

/-- Entry `(y, z)` of slot `b` in the scratch array. -/
theorem slot_emb (b : Fin 8) (y z : Fin 224) : ((slot b).view.emb (sqix y z) : S8x224x224.Idx) = (fun a => match a with | 0 => b | 1 => y | 2 => z : S8x224x224.Idx) := by
  have hr : Shape.reshapeEquiv (s := S1x224x224) (s' := S224x224) squeezes_S1x224x224_S224x224.numel_eq (sqix y z) = tix y z := by
    refine Shape.reshapeEquiv_eq_of_rowMajor _ ?_
    rw [Shape.rowMajor_val_three, Shape.rowMajor_val_two]
    change (0 * 224 + y.val) * 224 + z.val = y.val * 224 + z.val; omega
  change ((Rect.unit (s := S8x224x224) ![b.val, 0, 0] S1x224x224.size (slot_inb b)).emb (Shape.reshapeEquiv (s := S1x224x224) (s' := S224x224) squeezes_S1x224x224_S224x224.numel_eq (sqix y z))) = _
  rw [hr]
  funext a; apply Fin.ext; fin_cases a
  · change b.val + 1 * 0 = b.val; omega
  · change 0 + 1 * y.val = y.val; omega
  · change 0 + 1 * z.val = z.val; omega

/-- Entry `(y, z)` of block `t` in the result array. -/
theorem blk_emb (t : Fin 768) (b : Fin 8) (h : t.val / 96 = b.val) (y z : Fin 224) :
    ((blk t).view.emb (sqix y z) : S8x96x224x224.Idx) = (fun a => match a with | 0 => b | 1 => (⟨t.val % 96, Nat.mod_lt _ (by decide)⟩ : Fin 96) | 2 => y | 3 => z : S8x96x224x224.Idx) := by
  have hr : Shape.reshapeEquiv (s := S1x1x224x224) (s' := S224x224) squeezes_S1x1x224x224_S224x224.numel_eq (sqix y z)
      = (fun a => match a with | 0 => (0 : Fin 1) | 1 => (0 : Fin 1) | 2 => y | 3 => z : S1x1x224x224.Idx) := by
    refine Shape.reshapeEquiv_eq_of_rowMajor _ ?_
    rw [Shape.rowMajor_val_four, Shape.rowMajor_val_two]
    change ((0 * 1 + 0) * 224 + y.val) * 224 + z.val = y.val * 224 + z.val; omega
  change ((Rect.unit (s := S8x96x224x224) ![t.val / 96, t.val % 96, 0, 0] S1x1x224x224.size (out_inb t)).emb (Shape.reshapeEquiv (s := S1x1x224x224) (s' := S224x224) squeezes_S1x1x224x224_S224x224.numel_eq (sqix y z))) = _
  rw [hr]
  funext a; apply Fin.ext; fin_cases a
  · change t.val / 96 + 1 * 0 = b.val; omega
  · change t.val % 96 + 1 * 0 = t.val % 96; omega
  · change 0 + 1 * y.val = y.val; omega
  · change 0 + 1 * z.val = z.val; omega

/-- Block `t` holds tile `T b` once the transfer from slot `b = t / 96` has landed. -/
theorem land_blk (T : Fin 8 → FVec F S1x224x224 .f32) (t : Fin 768) (b : Fin 8) (hb : t.val / 96 = b.val) (f : S8x96x224x224.Idx → Elt F .f32) (i : S8x96x224x224.Idx) (hi : i ∈ blkSet t) :
    (blk t).view.write (Elt F) f ((slot b).view.read (Elt F) (scr T)) Finset.univ i = res T i := by
  have h0 := (mem_blk t i).mp hi
  have hi0 : i 0 = b := Fin.ext (h0.1.trans hb)
  have he : i = (blk t).view.emb (sqix (i 2) (i 3)) := by
    refine Eq.trans ?_ (blk_emb t b hb (i 2) (i 3)).symm
    funext a; fin_cases a
    · exact hi0
    · exact Fin.ext h0.2
    · rfl
    · rfl
  refine (congrArg _ he).trans ((View.write_emb_of_mem _ _ (Finset.mem_univ _)).trans ?_)
  refine (congrArg (scr T) (slot_emb b (i 2) (i 3))).trans ?_
  unfold scr res; rw [hi0]

end Cert.KernelIdeal.Run

end
-- ==== Proof.IssueIdeal.lean ====
module

public import proofs.«01_k».proof.Proof.SlotsIdeal

/-! # Issuing and draining the transfers

The transfers are one batch of 768 on one semaphore: transfer `t` copies slot `t / 96` into block `t`. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (T : Fin 8 → FVec F S1x224x224 .f32)

/-- Slot `b` held at share `q` with contents `f`. -/
abbrev slotAt (b : Fin 8) (q : PosShare TreeShare) (f : Buf (Elt F) ((slot b).view.loc (c : Thread nD τ))) : sProp 𝕄 :=
  (slot b).view.loc (c : Thread nD τ) ↦[(slot b).view.set]{q} f

/-- Block `t` held in full with contents `f`. -/
abbrev blkAt (t : Fin 768) (f : Buf (Elt F) ((blk t).view.loc (c : Thread nD τ))) : sProp 𝕄 :=
  (blk t).view.loc (c : Thread nD τ) ↦[(blk t).view.set]{fullShare} f

/-- The scratch array's contents, at slot `b`. -/
def scrAt (b : Fin 8) : Buf (Elt F) ((slot b).view.loc (c : Thread nD τ)) := scr T

/-- The result array's contents, at block `t`. -/
def resAt (t : Fin 768) : Buf (Elt F) ((blk t).view.loc (c : Thread nD τ)) := res T

/-- Block `t` held at some contents. -/
def blkOwn (t : Fin 768) : sProp 𝕄 := iprop(∃ f, blkAt c t f)

/-- Slot `b` held at some contents. -/
def slotOwn (b : Fin 8) : sProp 𝕄 := iprop(∃ f, slotAt c b fullShare f)

/-- The read token number `k` of slot `b`, the slot holding its tile. -/
def slotTok (b : Fin 8) (k : Fin 96) : sProp 𝕄 := slotAt c b (Transfers.shareTokN fullShare k.val) (scrAt c T b)

/-- What is left of slot `b` beside its 96 read tokens. -/
def slotRest (b : Fin 8) : sProp 𝕄 := slotAt c b (Transfers.shareDrop fullShare 96) (scrAt c T b)

/-- The slot transfer `t` reads. -/
def slotOf (t : Fin 768) : Fin 8 := ⟨t.val / 96, by have := t.isLt; omega⟩
/-- The token transfer `t` takes. -/
def chOf (t : Fin 768) : Fin 96 := ⟨t.val % 96, Nat.mod_lt _ (by decide)⟩

/-- What transfer `t` delivers: block `t` filled with its batch entry's tile, and the read token back. -/
def deliv (t : Fin 768) : sProp 𝕄 := iprop(blkAt c t (resAt c T t) ∗ slotTok c T (slotOf t) (chOf t))

instance deliv_storable (t : Fin 768) : BI.Storable (upEmb : UEmb _ 𝕄) (deliv c T t) := by
  unfold deliv slotTok; infer_instance

/-- What one transfer credits. -/
abbrev NN : ℕ := 7168

/-- The transfers' semaphore. -/
abbrev sem0 : DmaSem sig := (cc0_scratch1).sem

/-- The batch of all the transfers: `j` issued, `u` units consumed. -/
abbrev batch (j u : ℕ) : sProp 𝕄 :=
  Transfers.Batch (countersEmb (U := Pipeline.UD sig nD τ)) (c : Thread nD τ) (.dma sem0) () NN (deliv c T) j u

/-- Before transfer `k` of slot `b`'s loop. -/
def issueAt (b : Fin 8) (k : ℕ) : sProp 𝕄 :=
  iprop(batch c T (96 * b.val + k) 0 ∗ bigSep (Ring.rangeSet 768 (96 * b.val + k) 768) (blkOwn c) ∗ bigSep (Ring.rangeSet 96 k 96) (slotTok c T b))

/-- One trip of an issue loop: slot `b` copied to the block at offsets `off`. -/
def issueProg (b : Fin 8) (off : Fin 4 → Nat) (inb : ∀ a, off a + S1x1x224x224.size a ≤ S8x96x224x224.size a) : Prog (TpuEff nD τ sig (Elt F) Λ₀ .tc) Unit := do
  Prog.lift (.enqueueDma (((Memref.whole cc0_scratch0).slice (Rect.unit (s := S8x224x224) ![b.val, 0, 0] S1x224x224.size (slot_inb b)) (fun _ => rfl)).squeeze S224x224 squeezes_S1x224x224_S224x224)
    (.here (((Memref.whole main_v11).slice (Rect.unit (s := S8x96x224x224) off S1x1x224x224.size inb) (fun _ => rfl)).squeeze S224x224 squeezes_S1x1x224x224_S224x224))
    (.dma sem0) ((View.wordExact_bits rfl).reshape _ _) ((View.wordExact_bits rfl).reshape _ _) ⟨Or.inl rfl, trivial⟩)
  pure ⟨⟩

/-- A transfer from slot `b` into block `96 * b + k` delivers what the batch says. -/
theorem deliv_of (b : Fin 8) (k : Fin 96) (t : Fin 768) (ht : t.val = 96 * b.val + k.val) (f : Buf (Elt F) ((blk t).view.loc (c : Thread nD τ))) :
    iprop(((blk t).view.loc (c : Thread nD τ) ↦[(blk t).view.set]{fullShare} ((blk t).view.write (Elt F) f ((slot b).view.read (Elt F) (scrAt c T b)) Finset.univ))
      ∗ slotAt c b (Transfers.shareTokN fullShare k.val) (scrAt c T b)) ⊢ deliv c T t := by
  have hk := k.isLt
  obtain rfl : b = slotOf t := Fin.ext (by unfold slotOf; dsimp only; omega)
  obtain rfl : k = chOf t := Fin.ext (by unfold chOf; dsimp only; omega)
  unfold deliv slotTok
  have h : ((blk t).view.loc (c : Thread nD τ) ↦[(blk t).view.set]{fullShare} ((blk t).view.write (Elt F) f ((slot (slotOf t)).view.read (Elt F) (scrAt c T (slotOf t))) Finset.univ) : sProp 𝕄) = blkAt c t (resAt c T t) :=
    pointsTo_congr fun i hi => land_blk T t (slotOf t) rfl f i (by rw [blk_set] at hi; exact hi)
  rw [h]

/-- Issuing one transfer of the batch. -/
theorem issue_one (b : Fin 8) (k : Fin 96) (t : Fin 768) (ht : t.val = 96 * b.val + k.val) (h1 h2 h3) (f : Buf (Elt F) ((blk t).view.loc (c : Thread nD τ))) (Q : PUnit → sProp 𝕄) :
    iprop(slotTok c T b k ∗ blkAt c t f ∗ batch c T t.val 0)
      ⊢ iprop((batch c T (t.val + 1) 0 -∗ Q ⟨⟩) -∗ wp frame (wpE (defs₀ (F := F)) Variants.none (c : Thread nD τ) none) Set.univ
          (Prog.lift (.enqueueDma (slot b) (.here (blk t)) (.dma sem0) h1 h2 h3)) Q) := by
  have h := Transfers.wp_dmaBatch (countersEmb (U := Pipeline.UD sig nD τ)) (defs := defs₀ (F := F)) Variants.none (c : Thread nD τ) none (Q := Q) (src := slot b) (via := .same) (dst := blk t) (sm := .dma sem0)
    (hsrc := h1) (hdst := h2) (hsem := h3) (k := .ret) (D := deliv c T) (q := Transfers.shareTokN fullShare k.val) (fs := scrAt c T b) (fd := f) (u := 0)
    () NN rfl (Finset.Subset.refl _) t.isLt (Nat.zero_le _) (deliv_of c T b k t ht f)
  unfold slotTok
  iintro HP HQ
  iapply h $$ HP
  iintro HB
  rw [wp_ret]
  imodintro
  iapply HQ; iexact HB

/-- One trip of slot `b`'s issue loop. -/
theorem issue_step (b : Fin 8) (k : Fin 96) (off : Fin 4 → Nat) (inb) (hoff : off = ![b.val, k.val, 0, 0]) :
    issueAt c T b k.val ⊢ wp frame (wpE (defs₀ (F := F)) Variants.none (c : Thread nD τ) none) Set.univ (issueProg b off inb) (fun _ => issueAt c T b (k.val + 1)) := by
  have hk := k.isLt; have hb := b.isLt
  have ht : 96 * b.val + k.val < 768 := by omega
  have hoff' : off = ![(⟨96 * b.val + k.val, ht⟩ : Fin 768).val / 96, (⟨96 * b.val + k.val, ht⟩ : Fin 768).val % 96, 0, 0] := by
    rw [hoff]; dsimp only; rw [show (96 * b.val + k.val) / 96 = b.val by omega, show (96 * b.val + k.val) % 96 = k.val by omega]
  subst hoff'
  unfold issueAt
  rw [Ring.bigSep_rangeSet_head (Φ := blkOwn c) (by omega) ht, Ring.bigSep_rangeSet_head (Φ := slotTok c T b) (by omega) hk,
    show 96 * b.val + (k.val + 1) = 96 * b.val + k.val + 1 by omega]
  unfold blkOwn
  iintro ⟨HB, ⟨⟨%g, Hd⟩, Hds⟩, Hs, Hss⟩
  unfold issueProg
  rw [wp_bind]
  iapply (issue_one c T b k ⟨96 * b.val + k.val, ht⟩ rfl _ _ _ g _) $$ [HB Hd Hs]
  · isplitl [Hs]; · iexact Hs
    isplitl [Hd]; · iexact Hd
    iexact HB
  iintro HB
  rw [wp_pure]
  imodintro
  isplitl [HB]; · iexact HB
  isplitl [Hds]; · iexact Hds
  iexact Hss

end Cert.KernelIdeal.Run

end
-- ==== Proof.StageIdeal.lean ====
module

public import proofs.«01_k».proof.Proof.IssueIdeal

/-! # One slot's stage, and the drain

Slot `b` is stored, then copied to its 96 blocks. Between stages the state is `St`. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (T : Fin 8 → FVec F S1x224x224 .f32)

/-- Before slot `b`'s stage: the transfers of the slots before it issued, their blocks and read tokens with the
    batch; the other blocks and slots in hand, and the rest of the earlier slots. -/
def St (b : ℕ) : sProp 𝕄 :=
  iprop(batch c T (96 * b) 0 ∗ bigSep (Ring.rangeSet 768 (96 * b) 768) (blkOwn c) ∗ bigSep (Ring.rangeSet 8 b 8) (slotOwn c)
    ∗ bigSep (Ring.rangeSet 8 0 b) (slotRest c T))

/-- Slot `b` stored, none of its transfers issued. -/
def Mid (b : Fin 8) : sProp 𝕄 :=
  iprop(batch c T (96 * b.val) 0 ∗ bigSep (Ring.rangeSet 768 (96 * b.val) 768) (blkOwn c) ∗ slotAt c b fullShare (scrAt c T b) ∗ bigSep (Ring.rangeSet 8 (b.val + 1) 8) (slotOwn c)
    ∗ bigSep (Ring.rangeSet 8 0 b.val) (slotRest c T))

theorem access_set (b : Fin 8) (inb) : ((Memref.whole cc0_scratch0).access (Rect.unit (s := S8x224x224) ![b.val, 0, 0] S1x224x224.size inb)).set = (slot b).view.set :=
  (View.set_slice_whole _ _).trans (slot_set b).symm

/-- The load of a slot's old contents, which nothing reads. -/
theorem load_slot (b : Fin 8) {n : ℕ} (hn : n = b.val) (inb) (hl) (Q : (S1x224x224.Idx → Elt F .f32) → sProp 𝕄) :
    St c T n ⊢ iprop((∀ v, St c T n -∗ Q v) -∗ wp frame (wpE (defs₀ (F := F)) Variants.none (c : Thread nD τ) none) Set.univ
      (Prog.lift (.load (Memref.whole cc0_scratch0) (Rect.unit (s := S8x224x224) ![b.val, 0, 0] S1x224x224.size inb).toLoadRect hl)) Q) := by
  have hb := b.isLt
  subst hn
  unfold St
  rw [Ring.bigSep_rangeSet_head (NB := 8) (Φ := slotOwn c) hb hb]
  rw [show (slotOwn c ⟨b.val, hb⟩ : sProp 𝕄) = iprop(∃ f, slotAt c b fullShare f) from rfl]
  iintro ⟨HB, Hd, ⟨⟨%f, Hs⟩, Hss⟩, Hr⟩ HQ
  have h : slotAt c b fullShare f ⊢ iprop((slotAt c b fullShare f -∗ wp frame (wpE (defs₀ (F := F)) Variants.none (c : Thread nD τ) none) Set.univ
        (.ret (((Memref.whole cc0_scratch0).access (Rect.unit (s := S8x224x224) ![b.val, 0, 0] S1x224x224.size inb)).read (Elt F) f)) Q)
      -∗ wp frame (wpE (defs₀ (F := F)) Variants.none (c : Thread nD τ) none) Set.univ
      (Prog.lift (.load (Memref.whole cc0_scratch0) (Rect.unit (s := S8x224x224) ![b.val, 0, 0] S1x224x224.size inb).toLoadRect hl)) Q) := wp_load_rect (defs := defs₀ (F := F)) (Γ := .empty) Variants.none (c : Thread nD τ) none Set.univ (Q := Q) (m := Memref.whole cc0_scratch0)
    (r := Rect.unit (s := S8x224x224) ![b.val, 0, 0] S1x224x224.size inb) (hl := hl) (k := .ret) (S := (slot b).view.set) (q := fullShare) (f := f) (access_set b inb).subset
  iapply h $$ Hs
  iintro Hs
  rw [wp_ret]
  imodintro
  iapply HQ
  isplitl [HB]; · iexact HB
  isplitl [Hd]; · iexact Hd
  isplitr [Hr]; · isplitl [Hs]; · iexists f; iexact Hs
                  iexact Hss
  iexact Hr

/-- The store of slot `b`'s tile. -/
theorem store_step (b : Fin 8) {n : ℕ} (hn : n = b.val) (inb) (w : FVec F S1x224x224 .f32) (hw : w = T b) (h1 h2) (Q : PUnit → sProp 𝕄) :
    St c T n ⊢ iprop((Mid c T b -∗ Q ⟨⟩) -∗ wp frame (wpE (defs₀ (F := F)) Variants.none (c : Thread nD τ) none) Set.univ
      (Prog.lift (.store (Memref.whole cc0_scratch0) (Rect.unit (s := S8x224x224) ![b.val, 0, 0] S1x224x224.size inb) w Finset.univ h1 h2)) Q) := by
  have hb := b.isLt
  subst hw hn
  unfold St Mid
  rw [Ring.bigSep_rangeSet_head (NB := 8) (Φ := slotOwn c) hb hb]
  rw [show (slotOwn c ⟨b.val, hb⟩ : sProp 𝕄) = iprop(∃ f, slotAt c b fullShare f) from rfl]
  iintro ⟨HB, Hd, ⟨⟨%f, Hs⟩, Hss⟩, Hr⟩ HQ
  have h : slotAt c b fullShare f ⊢ iprop(((((Memref.whole cc0_scratch0).access (Rect.unit (s := S8x224x224) ![b.val, 0, 0] S1x224x224.size inb)).loc (c : Thread nD τ) ↦[(slot b).view.set]{fullShare}
        (((Memref.whole cc0_scratch0).access (Rect.unit (s := S8x224x224) ![b.val, 0, 0] S1x224x224.size inb)).write (Elt F) f (T b) Finset.univ)) -∗ wp frame (wpE (defs₀ (F := F)) Variants.none (c : Thread nD τ) none) Set.univ
        (.ret ⟨⟩) Q)
      -∗ wp frame (wpE (defs₀ (F := F)) Variants.none (c : Thread nD τ) none) Set.univ
      (Prog.lift (.store (Memref.whole cc0_scratch0) (Rect.unit (s := S8x224x224) ![b.val, 0, 0] S1x224x224.size inb) (T b) Finset.univ h1 h2)) Q) := wp_store (defs := defs₀ (F := F)) (Γ := .empty) Variants.none (c : Thread nD τ) none Set.univ (Q := Q) (m := Memref.whole cc0_scratch0)
    (r := Rect.unit (s := S8x224x224) ![b.val, 0, 0] S1x224x224.size inb) (w := T b) (Mk := Finset.univ) (hx := h1) (hm := h2) (k := .ret) (S := (slot b).view.set) (f := f) (access_set b inb).subset
  iapply h $$ Hs
  iintro Hs
  rw [wp_ret]
  imodintro
  iapply HQ
  isplitl [HB]; · iexact HB
  isplitl [Hd]; · iexact Hd
  isplitl [Hs]
  · have he : (((Memref.whole cc0_scratch0).access (Rect.unit (s := S8x224x224) ![b.val, 0, 0] S1x224x224.size inb)).loc (c : Thread nD τ) ↦[(slot b).view.set]{fullShare}
        (((Memref.whole cc0_scratch0).access (Rect.unit (s := S8x224x224) ![b.val, 0, 0] S1x224x224.size inb)).write (Elt F) f (T b) Finset.univ) : sProp 𝕄) = slotAt c b fullShare (scrAt c T b) :=
      pointsTo_congr fun i hi => store_slot T b f i (by rw [slot_set] at hi; exact hi)
    rw [← he]; iexact Hs
  isplitl [Hss]; · iexact Hss
  iexact Hr

/-- The issue loop of slot `b`. -/
theorem issue_loop (b : Fin 8) {n : ℕ} (hn : b.val + 1 = n) (l : Scf.Loop 32) (hl : l.trips = 96) (hok : l.OK) (body : Fin l.trips → Unit → Prog (TpuEff nD τ sig (Elt F) Λ₀ .tc) Unit)
    (off : Fin l.trips → Fin 4 → Nat) (inb : ∀ k a, off k a + S1x1x224x224.size a ≤ S8x96x224x224.size a) (hbody : ∀ k u, body k u = issueProg b (off k) (inb k))
    (hoff : ∀ k, off k = ![b.val, k.val, 0, 0]) (Q : Unit → sProp 𝕄) :
    Mid c T b ⊢ iprop((St c T n -∗ Q ⟨⟩) -∗ wp frame (wpE (defs₀ (F := F)) Variants.none (c : Thread nD τ) none) Set.univ
      (Scf.Loop.for l hok ⟨⟩ body) Q) := by
  have hb := b.isLt
  subst hn
  unfold Mid St
  iintro ⟨HB, Hd, Hs, Hss, Hr⟩ HQ
  ihave Hs' := (Transfers.pointsTo_toks_range fullShare 96).1 $$ Hs
  icases Hs' with ⟨Hrest, Htoks⟩
  iapply (Scf.wp_for frame (wpE (defs₀ (F := F)) Variants.none (c : Thread nD τ) none) Set.univ l.lb l.ub l.st hok ⟨⟩ body (fun k _ => issueAt c T b k)
    (fun k acc => by rw [hbody]; exact issue_step c T b ⟨k.val, by have := k.isLt; rw [← hl]; exact this⟩ _ _ (hoff k)))
  isplitl [HB Hd Htoks]
  · unfold issueAt
    isplitl [HB]; · iexact HB
    isplitl [Hd]; · iexact Hd
    rw [Ring.bigSep_rangeSet_eq_range (NB := 96) (lo := 0) (hi := 96) (Φ := slotTok c T b) le_rfl (fun i => slotAt c b (Transfers.shareTokN fullShare i) (scrAt c T b)) (fun k h => by unfold slotTok; simp only [Nat.zero_add])]
    iexact Htoks
  iintro %acc HI
  iapply HQ
  rw [show Scf.trips l.lb l.ub l.st = 96 from hl]
  unfold issueAt
  icases HI with ⟨HB, Hd, Hn⟩
  rw [Ring.bigSep_rangeSet_empty (NB := 96) (le_refl 96), show 96 * b.val + 96 = 96 * (b.val + 1) by omega,
    Ring.bigSep_rangeSet_last (NB := 8) (lo := 0) (hi := b.val + 1) (Φ := slotRest c T) (by omega) (by omega)]
  isplitl [HB]; · iexact HB
  isplitl [Hd]; · iexact Hd
  isplitl [Hss]; · iexact Hss
  isplitl [Hrest]; · unfold slotRest; iexact Hrest
  iexact Hr

/-- Before wait `k` of the drain: the waits done so far recorded, and either the batch with `k` transfers' units
    consumed or, after the last wait, the counter at zero and every delivery. -/
def drainAt (k : ℕ) : sProp 𝕄 :=
  iprop((∃ W, owes (c : Thread nD τ) 0 W)
    ∗ (if k < 768 then batch c T 768 (k * NN) else iprop(semVal ((c : Thread nD τ), SemLoc.dma sem0) 0 ∗ bigSep Finset.univ (deliv c T))))

/-- One wait of the drain. -/
theorem drain_step (k : ℕ) (hk : k < 768) (hsrc hdst) :
    drainAt c T k ⊢ wp frame (wpE (defs₀ (F := F)) Variants.none (c : Thread nD τ) none) Set.univ
      (Prog.lift (.waitDma2 sem0 (slot 0) (blk 0) hsrc hdst)) (fun _ => drainAt c T (k + 1)) := by
  unfold drainAt
  rw [if_pos hk]
  rcases Nat.lt_or_ge (k + 1) 768 with h1 | h1
  · rw [if_pos h1]
    iintro ⟨⟨%W, HO⟩, HB⟩
    have h := Transfers.wp_waitBatch (countersEmb (U := Pipeline.UD sig nD τ)) (defs := defs₀ (F := F)) Variants.none (c : Thread nD τ) none (Q := fun _ => iprop((∃ W, owes (c : Thread nD τ) 0 W) ∗ batch c T 768 ((k + 1) * NN)))
      (sem := sem0) (srcw := slot 0) (dstw := blk 0) (hsrc := hsrc) (hdst := hdst) (k := .ret) () (N := NN) rfl (D := deliv c T) (u := k * NN) (by simp only [NN]; omega) (W := W)
    iapply h $$ [HB HO]
    · isplitl [HB]; · iexact HB
      iexact HO
    iintro ⟨HB, HO⟩
    rw [wp_ret]
    imodintro
    isplitl [HO]; · iexists _; iexact HO
    rw [show (k + 1) * NN = k * NN + NN by simp only [NN]; omega]
    iexact HB
  · rw [if_neg (Nat.not_lt.mpr h1)]
    iintro ⟨⟨%W, HO⟩, HB⟩
    have h := Transfers.wp_waitBatchLast (countersEmb (U := Pipeline.UD sig nD τ)) (defs := defs₀ (F := F)) Variants.none (c : Thread nD τ) none (Q := fun _ => iprop((∃ W, owes (c : Thread nD τ) 0 W) ∗ semVal ((c : Thread nD τ), SemLoc.dma sem0) 0 ∗ bigSep Finset.univ (deliv c T)))
      (sem := sem0) (srcw := slot 0) (dstw := blk 0) (hsrc := hsrc) (hdst := hdst) (k := .ret) () (N := NN) rfl (by decide) (D := deliv c T) (u := k * NN) (by simp only [NN]; omega) (W := W)
    iapply h $$ [HB HO]
    · isplitl [HB]; · iexact HB
      iexact HO
    iintro ⟨HD, Hv, HO⟩
    rw [wp_ret]
    imodintro
    isplitl [HO]; · iexists _; iexact HO
    isplitl [Hv]; · iexact Hv
    iexact HD

/-- The rest of a slot and its 96 read tokens are the slot. -/
theorem slot_join (b : Fin 8) :
    iprop(slotRest c T b ∗ bigSep (Finset.range 96) (fun i => slotAt c b (Transfers.shareTokN fullShare i) (scrAt c T b))) ⊢ slotAt c b fullShare (scrAt c T b) := by
  unfold slotRest; exact (Transfers.pointsTo_toks_range fullShare 96).2

/-- The read tokens of the slots from `b` on and the rests of those slots are the slots. -/
theorem slots_join : ∀ n b : ℕ, b + n = 8 →
    iprop(bigSep (Ring.rangeSet 768 (96 * b) 768) (fun t => slotTok c T (slotOf t) (chOf t)) ∗ bigSep (Ring.rangeSet 8 b 8) (slotRest c T))
      ⊢ bigSep (Ring.rangeSet 8 b 8) (fun b => slotAt c b fullShare (scrAt c T b)) := by
  intro n
  induction n with
  | zero =>
    intro b hb
    obtain rfl : b = 8 := by omega
    rw [Ring.bigSep_rangeSet_empty (NB := 8) (le_refl 8), Ring.bigSep_rangeSet_empty (NB := 8) (le_refl 8)]
    iintro ⟨-, H⟩; iexact H
  | succ n ih =>
    intro b hb
    have hb8 : b < 8 := by omega
    rw [Ring.bigSep_rangeSet_head (NB := 8) (Φ := slotRest c T) hb8 hb8, Ring.bigSep_rangeSet_head (NB := 8) (Φ := fun b => slotAt c b fullShare (scrAt c T b)) hb8 hb8,
      Ring.bigSep_rangeSet_split (NB := 768) (a := 96 * b) (b := 96 * (b + 1)) (d := 768) (by omega) (by omega),
      Ring.bigSep_rangeSet_eq_range (NB := 768) (lo := 96 * b) (hi := 96 * (b + 1)) (Φ := fun t => slotTok c T (slotOf t) (chOf t)) (by omega)
        (fun i => if h : 96 * b + i < 768 then slotTok c T (slotOf ⟨96 * b + i, h⟩) (chOf ⟨96 * b + i, h⟩) else iprop(emp)) (fun k h => dif_pos h),
      show 96 * (b + 1) - 96 * b = 96 by omega,
      BI.bigSep_congr (Ψ := fun i => slotAt c ⟨b, hb8⟩ (Transfers.shareTokN fullShare i) (scrAt c T ⟨b, hb8⟩)) (fun i hi => by
        have hi' : i < 96 := Finset.mem_range.mp hi
        have h : 96 * b + i < 768 := by omega
        rw [dif_pos h, show slotOf ⟨96 * b + i, h⟩ = ⟨b, hb8⟩ from Fin.ext (by unfold slotOf; dsimp only; omega),
          show chOf ⟨96 * b + i, h⟩ = ⟨i, hi'⟩ from Fin.ext (by unfold chOf; dsimp only; omega)]
        rfl)]
    iintro ⟨⟨Ht, Hts⟩, Hr, Hrs⟩
    isplitl [Ht Hr]
    · iapply (slot_join c T ⟨b, hb8⟩)
      isplitl [Hr]; · iexact Hr
      iexact Ht
    · iapply (ih (b + 1) (by omega))
      isplitl [Hts]; · iexact Hts
      iexact Hrs

end Cert.KernelIdeal.Run

end
-- ==== Proof.BodyIdeal.lean ====
module

public import proofs.«01_k».proof.Proof.StageIdeal

/-! # The kernel's body, part by part

Each part's rule: what it needs, what it yields, and the state it leaves. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (T : Fin 8 → FVec F S1x224x224 .f32)

/-- A load through a memref held at contents `X` reads `X` at the load's indices. -/
theorem load_in {s : Shape} (m : Memref sig .tc .vmem s .f32) (X : s.Idx → Elt F .f32) (r : LoadRect s) (hl) (Q : (r.shape.Idx → Elt F .f32) → sProp 𝕄) :
    owns (c : Thread nD τ) m fullShare X ⊢ iprop((owns (c : Thread nD τ) m fullShare X -∗ Q (fun i => X (r.idx i))) -∗ wp frame (wpE (defs₀ (F := F)) Variants.none (c : Thread nD τ) none) Set.univ
      (Prog.lift (.load m r hl)) Q) := by
  unfold owns
  iintro ⟨%f, %hf, H⟩ HQ
  have h := wp_load (defs := defs₀ (F := F)) (Γ := .empty) Variants.none (c : Thread nD τ) none Set.univ (Q := Q) (m := m) (r := r) (hl := hl) (k := .ret) (S := m.view.set) (q := fullShare) (f := f)
    (m.view.setOn_subset_set _)
  iapply h $$ H
  iintro H
  rw [wp_ret]
  imodintro
  rw [show m.view.readAt (Elt F) r f = fun i => X (r.idx i) by rw [← hf]; rfl]
  iapply HQ
  iexists f
  isplitr; · ipureintro; exact hf
  iexact H

/-- A counted loop whose trips only compute ends at the folded value. -/
theorem pure_loop {σ : Type} (l : Scf.Loop 32) (hok : l.OK) (init : σ) (body : Fin l.trips → σ → Prog (TpuEff nD τ sig (Elt F) Λ₀ .tc) σ) (g : σ → σ)
    (hbody : ∀ k s, body k s = pure (g s)) (Q : σ → sProp 𝕄) :
    Q (g^[l.trips] init) ⊢ wp frame (wpE (defs₀ (F := F)) Variants.none (c : Thread nD τ) none) Set.univ (Scf.Loop.for l hok init body) Q := by
  have h := Scf.wp_for frame (wpE (defs₀ (F := F)) Variants.none (c : Thread nD τ) none) Set.univ l.lb l.ub l.st hok init body
    (fun k s => iprop(⌜s = g^[k] init⌝ : sProp 𝕄))
    (fun k acc => by
      rw [hbody, wp_pure]
      iintro %h
      imodintro
      ipureintro
      rw [h, Function.iterate_succ_apply']) (Q := Q)
  iintro HQ
  iapply h
  isplitr
  · ipureintro; rfl
  iintro %acc %hacc
  rw [hacc]
  iexact HQ

/-- The same over a pair, the pair's components apart. -/
theorem pure_loop2 {σ σ' : Type} (l : Scf.Loop 32) (hok : l.OK) (init : σ × σ') (body : Fin l.trips → σ × σ' → Prog (TpuEff nD τ sig (Elt F) Λ₀ .tc) (σ × σ')) (g : σ × σ' → σ × σ')
    (hbody : ∀ k s, body k s = pure (g s)) (r : σ × σ') (hr : r = g^[l.trips] init) (Q : σ × σ' → sProp 𝕄) :
    Q (r.1, r.2) ⊢ wp frame (wpE (defs₀ (F := F)) Variants.none (c : Thread nD τ) none) Set.univ (Scf.Loop.for l hok init body) Q := by
  subst hr; exact pure_loop c l hok init body g hbody Q

/-! ## Values -/

/-- What the load of the whole scores reads. -/
def ld0 (x0 : S8x3200.Idx → Elt F .f32) : Vec F S8x3200 .f32 := fun i => x0 ((Rect.unit (s := S8x3200) ![0, 0] S8x3200.size inb_S8x3200_S8x3200_0_0).toLoadRect.idx i)

/-- What the load of the whole expansion matrix reads. -/
def ld2 (x2 : S224x56.Idx → Elt F .f32) : Vec F S224x56 .f32 := fun i => x2 ((Rect.unit (s := S224x56) ![0, 0] S224x56.size inb_S224x56_S224x56_0_0).toLoadRect.idx i)

theorem map_inb (b : Fin 8) : ∀ a, (![b.val, 0, 0] : Fin 3 → Nat) a + S1x56x56.size a ≤ S8x56x56.size a := by
  have := b.isLt; intro a; fin_cases a
  · show b.val + 1 ≤ 8; omega
  · show 0 + 56 ≤ 56; omega
  · show 0 + 56 ≤ 56; omega

/-- What the load of batch entry `b`'s score map reads. -/
def ld1 (x1 : S8x56x56.Idx → Elt F .f32) (b : Fin 8) : Vec F S1x56x56 .f32 := fun i => x1 ((Rect.unit (s := S8x56x56) ![b.val, 0, 0] S1x56x56.size (map_inb b)).toLoadRect.idx i)

/-- The load of the whole scores. -/
theorem load_x0 (m : Memref sig .tc .vmem S8x3200 .f32) (x0 : S8x3200.Idx → Elt F .f32) (hl) (Q : (S8x3200.Idx → Elt F .f32) → sProp 𝕄) :
    owns (c : Thread nD τ) m fullShare x0 ⊢ iprop((owns (c : Thread nD τ) m fullShare x0 -∗ Q (ld0 x0)) -∗ wp frame (wpE (defs₀ (F := F)) Variants.none (c : Thread nD τ) none) Set.univ
      (Prog.lift (.load m (Rect.unit (s := S8x3200) ![0, 0] S8x3200.size inb_S8x3200_S8x3200_0_0).toLoadRect hl)) Q) :=
  load_in c m x0 _ hl Q

/-- The load of the whole expansion matrix. -/
theorem load_x2 (m : Memref sig .tc .vmem S224x56 .f32) (x2 : S224x56.Idx → Elt F .f32) (hl) (Q : (S224x56.Idx → Elt F .f32) → sProp 𝕄) :
    owns (c : Thread nD τ) m fullShare x2 ⊢ iprop((owns (c : Thread nD τ) m fullShare x2 -∗ Q (ld2 x2)) -∗ wp frame (wpE (defs₀ (F := F)) Variants.none (c : Thread nD τ) none) Set.univ
      (Prog.lift (.load m (Rect.unit (s := S224x56) ![0, 0] S224x56.size inb_S224x56_S224x56_0_0).toLoadRect hl)) Q) :=
  load_in c m x2 _ hl Q

/-- The load of batch entry `b`'s score map. -/
theorem load_x1 (m : Memref sig .tc .vmem S8x56x56 .f32) (x1 : S8x56x56.Idx → Elt F .f32) (b : Fin 8) (inb) (hl) (Q : (S1x56x56.Idx → Elt F .f32) → sProp 𝕄) :
    owns (c : Thread nD τ) m fullShare x1 ⊢ iprop((owns (c : Thread nD τ) m fullShare x1 -∗ Q (ld1 x1 b)) -∗ wp frame (wpE (defs₀ (F := F)) Variants.none (c : Thread nD τ) none) Set.univ
      (Prog.lift (.load m (Rect.unit (s := S8x56x56) ![b.val, 0, 0] S1x56x56.size inb).toLoadRect hl)) Q) :=
  load_in c m x1 _ hl Q

/-- One trip of the first search. -/
def step1 (v0 : Vec F S8x3200 .f32) (a : FVec F S8x1 .f32 × FVec F S8x1 .f32) : FVec F S8x1 .f32 × FVec F S8x1 .f32 := (k0_pay14 v0 a.1 a.2, k0_pay13 v0 a.1 a.2)

/-- The first search's final bracket. -/
def search1 (v0 : Vec F S8x3200 .f32) : FVec F S8x1 .f32 × FVec F S8x1 .f32 := (step1 v0)^[k0_t1_loop.trips] (k0_pay5 (F := F), k0_pay6 (F := F))

/-- One trip of the second search, over the first search's upper end `w`. -/
def step2 (v0 : Vec F S8x3200 .f32) (w : FVec F S8x1 .f32) (a : FVec F S8x1 .f32 × FVec F S8x1 .f32) : FVec F S8x1 .f32 × FVec F S8x1 .f32 :=
  (k0_pay27 (k0_pay2 v0) (k0_pay15 v0 w) (k0_pay16 v0 w) (k0_pay17 v0 w) (k0_pay18 w) a.1 a.2, k0_pay26 (k0_pay2 v0) (k0_pay15 v0 w) (k0_pay16 v0 w) (k0_pay17 v0 w) (k0_pay18 w) a.1 a.2)

/-- The second search's final bracket. -/
def search2 (v0 : Vec F S8x3200 .f32) : FVec F S8x1 .f32 × FVec F S8x1 .f32 := (step2 v0 (search1 v0).2)^[k0_t2_loop.trips] (k0_pay5 (F := F), k0_pay6 (F := F))

/-- The thresholds, one per batch entry. -/
abbrev thr (v0 : Vec F S8x3200 .f32) : FVec F S8x1 .f32 := (search2 v0).1

/-- The tile stored in slot `b`. -/
def tiles (t : FVec F S8x1 .f32) (p : FVec F S224x56 .f32) (m : Fin 8 → Vec F S1x56x56 .f32) : Fin 8 → FVec F S1x224x224 .f32
  | 0 => k0_pay30 p (k0_pay29 t (m 0))
  | 1 => k0_pay31 t p (m 1)
  | 2 => k0_pay32 t p (m 2)
  | 3 => k0_pay35 p (k0_pay33 t (m 3)) (k0_pay34 (F := F))
  | 4 => k0_pay37 (k0_pay36 t p (m 4))
  | 5 => k0_pay38 t p (m 5)
  | 6 => k0_pay42 p (k0_pay39 t) (k0_pay40 (m 6)) (k0_pay41 (F := F))
  | 7 => k0_pay1 p (k0_pay43 t (m 7)) (k0_pay44 t (m 7))

/-! ## The issue loops' offsets -/

theorem off1 : ∀ k : Fin k0_t3_loop.trips, k0_off1 k = ![0, k.val, 0, 0] := by decide +kernel
theorem off2 : ∀ k : Fin k0_t4_loop.trips, k0_off2 k = ![1, k.val, 0, 0] := by decide +kernel
theorem off3 : ∀ k : Fin k0_t5_loop.trips, k0_off3 k = ![2, k.val, 0, 0] := by decide +kernel
theorem off4 : ∀ k : Fin k0_t6_loop.trips, k0_off4 k = ![3, k.val, 0, 0] := by decide +kernel
theorem off5 : ∀ k : Fin k0_t7_loop.trips, k0_off5 k = ![4, k.val, 0, 0] := by decide +kernel
theorem off6 : ∀ k : Fin k0_t8_loop.trips, k0_off6 k = ![5, k.val, 0, 0] := by decide +kernel
theorem off7 : ∀ k : Fin k0_t9_loop.trips, k0_off7 k = ![6, k.val, 0, 0] := by decide +kernel
theorem off8 : ∀ k : Fin k0_t10_loop.trips, k0_off8 k = ![7, k.val, 0, 0] := by decide +kernel

/-! ## The parts -/

section Parts

variable (arg0 : Memref sig .tc .vmem S8x3200 .f32) (harg0 : arg0.IsWhole) (arg1 : Memref sig .tc .vmem S8x56x56 .f32) (harg1 : arg1.IsWhole) (arg2 : Memref sig .tc .vmem S224x56 .f32) (harg2 : arg2.IsWhole)
variable (x0 : S8x3200.Idx → Elt F .f32) (x1 : S8x56x56.Idx → Elt F .f32) (x2 : S224x56.Idx → Elt F .f32)

/-- Part 1: the scores loaded, the first search run. -/
theorem part1 (Q) :
    (owns (c : Thread nD τ) arg0 fullShare x0 : sProp 𝕄) ⊢ iprop((owns (c : Thread nD τ) arg0 fullShare x0 -∗
        Q ⟨k0_pay2 (ld0 x0), k0_pay5 (F := F), k0_pay6 (F := F), k0_pay15 (ld0 x0) (search1 (ld0 x0)).2, k0_pay16 (ld0 x0) (search1 (ld0 x0)).2, k0_pay17 (ld0 x0) (search1 (ld0 x0)).2, k0_pay18 (search1 (ld0 x0)).2⟩)
      -∗ wp frame (wpE (defs₀ (F := F)) Variants.none (c : Thread nD τ) none) Set.univ (k0_part1 (F := F) arg0 harg0 arg1 harg1 arg2 harg2 (Memref.whole main_v11) (Memref.isWhole_whole _) (Memref.whole cc0_scratch0) (Memref.isWhole_whole _) cc0_scratch1) Q) := by
  rw [k0_part1_eq_skeleton]
  unfold k0_part1_skel
  simp only [wp_bind]
  iintro H0 HQ
  iapply (load_x0 c arg0 x0 _ _) $$ H0
  iintro H0
  iapply (pure_loop2 c k0_t1_loop k0_t1_ok _ _ (step1 (ld0 x0)) (fun k s => rfl) (search1 (ld0 x0)) rfl _)
  rw [wp_pure]
  imodintro
  iapply HQ; iexact H0

/-- Part 2: the second search run, the expansion matrix and the first map loaded. -/
theorem part2 (v0 : Vec F S8x3200 .f32) (Q) :
    (iprop(owns (c : Thread nD τ) arg1 fullShare x1 ∗ owns (c : Thread nD τ) arg2 fullShare x2) : sProp 𝕄) ⊢ iprop(((owns (c : Thread nD τ) arg1 fullShare x1 ∗ owns (c : Thread nD τ) arg2 fullShare x2) -∗
        Q ⟨thr v0, k0_pay28 (ld2 x2), k0_pay29 (thr v0) (ld1 x1 0)⟩)
      -∗ wp frame (wpE (defs₀ (F := F)) Variants.none (c : Thread nD τ) none) Set.univ (k0_part2 (F := F) arg0 harg0 arg1 harg1 arg2 harg2 (Memref.whole main_v11) (Memref.isWhole_whole _) (Memref.whole cc0_scratch0) (Memref.isWhole_whole _) cc0_scratch1
        (k0_pay2 v0) (k0_pay5 (F := F)) (k0_pay6 (F := F)) (k0_pay15 v0 (search1 v0).2) (k0_pay16 v0 (search1 v0).2) (k0_pay17 v0 (search1 v0).2) (k0_pay18 (search1 v0).2)) Q) := by
  rw [k0_part2_eq_skeleton]
  unfold k0_part2_skel
  simp only [wp_bind]
  iintro ⟨H1, H2⟩ HQ
  iapply (pure_loop2 c k0_t2_loop k0_t2_ok _ _ (step2 v0 (search1 v0).2) (fun k s => rfl) (search2 v0) rfl _)
  simp only [wp_bind]
  iapply (load_x2 c arg2 x2 _ _) $$ H2
  iintro H2
  iapply (load_x1 c arg1 x1 0 _ _ _) $$ H1
  iintro H1
  rw [wp_pure]
  imodintro
  iapply HQ
  isplitl [H1]; · iexact H1
  iexact H2

/-- Part 3: slots 0 and 1 stored and issued. -/
theorem part3 (t : FVec F S8x1 .f32) (p : FVec F S224x56 .f32) (v79 : FVec F S56x56 .f32) (h0 : k0_pay30 p v79 = T 0) (h1 : k0_pay31 t p (ld1 x1 1) = T 1) (Q) :
    iprop(St c T 0 ∗ owns (c : Thread nD τ) arg1 fullShare x1) ⊢ iprop(((St c T 2 ∗ owns (c : Thread nD τ) arg1 fullShare x1) -∗ Q ⟨⟩)
      -∗ wp frame (wpE (defs₀ (F := F)) Variants.none (c : Thread nD τ) none) Set.univ (k0_part3 (F := F) arg0 harg0 arg1 harg1 arg2 harg2 (Memref.whole main_v11) (Memref.isWhole_whole _) (Memref.whole cc0_scratch0) (Memref.isWhole_whole _) cc0_scratch1 t p v79) Q) := by
  rw [k0_part3_eq_skeleton]
  unfold k0_part3_skel
  simp only [wp_bind]
  iintro ⟨HS, H1⟩ HQ
  iapply (load_slot c T 0 (n := 0) rfl _ _ _) $$ HS
  iintro %v HS
  iapply (store_step c T 0 (n := 0) rfl _ _ h0 _ _ _) $$ HS
  iintro HS
  iapply (issue_loop c T 0 (n := 1) rfl k0_t3_loop (by decide) k0_t3_ok _ k0_off1 k0_off1_inb (fun _ _ => rfl) off1 _) $$ HS
  iintro HS
  iapply (load_x1 c arg1 x1 1 _ _ _) $$ H1
  iintro H1
  iapply (load_slot c T 1 (n := 1) rfl _ _ _) $$ HS
  iintro %v' HS
  iapply (store_step c T 1 (n := 1) rfl _ _ h1 _ _ _) $$ HS
  iintro HS
  iapply (issue_loop c T 1 (n := 2) rfl k0_t4_loop (by decide) k0_t4_ok _ k0_off2 k0_off2_inb (fun _ _ => rfl) off2 _) $$ HS
  iintro HS
  rw [wp_pure]
  imodintro
  iapply HQ
  isplitl [HS]; · iexact HS
  iexact H1

/-- Part 4: slot 2 stored and issued, map 3 loaded. -/
theorem part4 (t : FVec F S8x1 .f32) (p : FVec F S224x56 .f32) (h2 : k0_pay32 t p (ld1 x1 2) = T 2) (Q) :
    iprop(St c T 2 ∗ owns (c : Thread nD τ) arg1 fullShare x1) ⊢ iprop(((St c T 3 ∗ owns (c : Thread nD τ) arg1 fullShare x1) -∗ Q ⟨k0_pay33 t (ld1 x1 3), k0_pay34 (F := F)⟩)
      -∗ wp frame (wpE (defs₀ (F := F)) Variants.none (c : Thread nD τ) none) Set.univ (k0_part4 (F := F) arg0 harg0 arg1 harg1 arg2 harg2 (Memref.whole main_v11) (Memref.isWhole_whole _) (Memref.whole cc0_scratch0) (Memref.isWhole_whole _) cc0_scratch1 t p) Q) := by
  rw [k0_part4_eq_skeleton]
  unfold k0_part4_skel
  simp only [wp_bind]
  iintro ⟨HS, H1⟩ HQ
  iapply (load_x1 c arg1 x1 2 _ _ _) $$ H1
  iintro H1
  iapply (load_slot c T 2 (n := 2) rfl _ _ _) $$ HS
  iintro %v2 HS
  iapply (store_step c T 2 (n := 2) rfl _ _ h2 _ _ _) $$ HS
  iintro HS
  iapply (issue_loop c T 2 (n := 3) rfl k0_t5_loop (by decide) k0_t5_ok _ k0_off3 k0_off3_inb (fun _ _ => rfl) off3 _) $$ HS
  iintro HS
  iapply (load_x1 c arg1 x1 3 _ _ _) $$ H1
  iintro H1
  rw [wp_pure]
  imodintro
  iapply HQ
  isplitl [HS]; · iexact HS
  iexact H1

/-- Part 5: slot 3 stored and issued, map 4 loaded. -/
theorem part5 (t : FVec F S8x1 .f32) (p : FVec F S224x56 .f32) (v145 v146 : FVec F S56x56 .f32) (h3 : k0_pay35 p v145 v146 = T 3) (Q) :
    iprop(St c T 3 ∗ owns (c : Thread nD τ) arg1 fullShare x1) ⊢ iprop((∀ v182 : Vec F S1x224x224 .f32, (St c T 4 ∗ owns (c : Thread nD τ) arg1 fullShare x1) -∗ Q ⟨k0_pay36 t p (ld1 x1 4), v182⟩)
      -∗ wp frame (wpE (defs₀ (F := F)) Variants.none (c : Thread nD τ) none) Set.univ (k0_part5 (F := F) arg0 harg0 arg1 harg1 arg2 harg2 (Memref.whole main_v11) (Memref.isWhole_whole _) (Memref.whole cc0_scratch0) (Memref.isWhole_whole _) cc0_scratch1 t p v145 v146) Q) := by
  rw [k0_part5_eq_skeleton]
  unfold k0_part5_skel
  simp only [wp_bind]
  iintro ⟨HS, H1⟩ HQ
  iapply (load_slot c T 3 (n := 3) rfl _ _ _) $$ HS
  iintro %v3 HS
  iapply (store_step c T 3 (n := 3) rfl _ _ h3 _ _ _) $$ HS
  iintro HS
  iapply (issue_loop c T 3 (n := 4) rfl k0_t6_loop (by decide) k0_t6_ok _ k0_off4 k0_off4_inb (fun _ _ => rfl) off4 _) $$ HS
  iintro HS
  iapply (load_x1 c arg1 x1 4 _ _ _) $$ H1
  iintro H1
  iapply (load_slot c T 4 (n := 4) rfl _ _ _) $$ HS
  iintro %v4 HS
  rw [wp_pure]
  imodintro
  iapply HQ
  isplitl [HS]; · iexact HS
  iexact H1

/-- Part 6: slots 4 and 5 stored and issued, map 6 loaded. -/
theorem part6 (t : FVec F S8x1 .f32) (p : FVec F S224x56 .f32) (v181 : FVec F S224x224 .f32) (v182 : Vec F S1x224x224 .f32) (h4 : k0_pay37 v181 = T 4) (h5 : k0_pay38 t p (ld1 x1 5) = T 5) (Q) :
    iprop(St c T 4 ∗ owns (c : Thread nD τ) arg1 fullShare x1) ⊢ iprop(((St c T 6 ∗ owns (c : Thread nD τ) arg1 fullShare x1) -∗ Q ⟨k0_pay39 t, k0_pay40 (ld1 x1 6), k0_pay41 (F := F)⟩)
      -∗ wp frame (wpE (defs₀ (F := F)) Variants.none (c : Thread nD τ) none) Set.univ (k0_part6 (F := F) arg0 harg0 arg1 harg1 arg2 harg2 (Memref.whole main_v11) (Memref.isWhole_whole _) (Memref.whole cc0_scratch0) (Memref.isWhole_whole _) cc0_scratch1 t p v181 v182) Q) := by
  rw [k0_part6_eq_skeleton]
  unfold k0_part6_skel
  simp only [wp_bind]
  iintro ⟨HS, H1⟩ HQ
  iapply (store_step c T 4 (n := 4) rfl _ _ h4 _ _ _) $$ HS
  iintro HS
  iapply (issue_loop c T 4 (n := 5) rfl k0_t7_loop (by decide) k0_t7_ok _ k0_off5 k0_off5_inb (fun _ _ => rfl) off5 _) $$ HS
  iintro HS
  iapply (load_x1 c arg1 x1 5 _ _ _) $$ H1
  iintro H1
  iapply (load_slot c T 5 (n := 5) rfl _ _ _) $$ HS
  iintro %v5 HS
  iapply (store_step c T 5 (n := 5) rfl _ _ h5 _ _ _) $$ HS
  iintro HS
  iapply (issue_loop c T 5 (n := 6) rfl k0_t8_loop (by decide) k0_t8_ok _ k0_off6 k0_off6_inb (fun _ _ => rfl) off6 _) $$ HS
  iintro HS
  iapply (load_x1 c arg1 x1 6 _ _ _) $$ H1
  iintro H1
  rw [wp_pure]
  imodintro
  iapply HQ
  isplitl [HS]; · iexact HS
  iexact H1

/-- Part 7: slot 6 stored and issued, map 7 loaded. -/
theorem part7 (t : FVec F S8x1 .f32) (p : FVec F S224x56 .f32) (v211 : FVec F S1x1 .f32) (v213 v214 : FVec F S56x56 .f32) (h6 : k0_pay42 p v211 v213 v214 = T 6) (Q) :
    iprop(St c T 6 ∗ owns (c : Thread nD τ) arg1 fullShare x1) ⊢ iprop(((St c T 7 ∗ owns (c : Thread nD τ) arg1 fullShare x1) -∗ Q ⟨k0_pay43 t (ld1 x1 7), k0_pay44 t (ld1 x1 7)⟩)
      -∗ wp frame (wpE (defs₀ (F := F)) Variants.none (c : Thread nD τ) none) Set.univ (k0_part7 (F := F) arg0 harg0 arg1 harg1 arg2 harg2 (Memref.whole main_v11) (Memref.isWhole_whole _) (Memref.whole cc0_scratch0) (Memref.isWhole_whole _) cc0_scratch1 t p v211 v213 v214) Q) := by
  rw [k0_part7_eq_skeleton]
  unfold k0_part7_skel
  simp only [wp_bind]
  iintro ⟨HS, H1⟩ HQ
  iapply (load_slot c T 6 (n := 6) rfl _ _ _) $$ HS
  iintro %v6 HS
  iapply (store_step c T 6 (n := 6) rfl _ _ h6 _ _ _) $$ HS
  iintro HS
  iapply (issue_loop c T 6 (n := 7) rfl k0_t9_loop (by decide) k0_t9_ok _ k0_off7 k0_off7_inb (fun _ _ => rfl) off7 _) $$ HS
  iintro HS
  iapply (load_x1 c arg1 x1 7 _ _ _) $$ H1
  iintro H1
  rw [wp_pure]
  imodintro
  iapply HQ
  isplitl [HS]; · iexact HS
  iexact H1

/-- What the drain loop starts from: every transfer issued, none waited for. -/
theorem drain_start : St c T 8 ⊢ iprop((∃ W, owes (c : Thread nD τ) 0 W) -∗ (drainAt c T 0 ∗ bigSep (Ring.rangeSet 8 0 8) (slotRest c T))) := by
  unfold St drainAt
  iintro ⟨HB, -, -, HR⟩ HW
  isplitr [HR]
  · isplitl [HW]; · iexact HW
    rw [if_pos (by decide)]
    iexact HB
  iexact HR

/-- The drain loop: every transfer waited for. -/
theorem drain_loop (body : Fin k0_t11_loop.trips → Unit → Prog (TpuEff nD τ sig (Elt F) Λ₀ .tc) Unit) (hsrc hdst)
    (hbody : ∀ k u, body k u = (do Prog.lift (.waitDma2 sem0 (slot 0) (blk 0) hsrc hdst); pure ⟨⟩)) (Q : Unit → sProp 𝕄) :
    drainAt c T 0 ⊢ iprop((drainAt c T 768 -∗ Q ⟨⟩) -∗ wp frame (wpE (defs₀ (F := F)) Variants.none (c : Thread nD τ) none) Set.univ (Scf.Loop.for k0_t11_loop k0_t11_ok ⟨⟩ body) Q) := by
  have htr : k0_t11_loop.trips = 768 := by decide
  have h := Scf.wp_for frame (wpE (defs₀ (F := F)) Variants.none (c : Thread nD τ) none) Set.univ k0_t11_loop.lb k0_t11_loop.ub k0_t11_loop.st k0_t11_ok ⟨⟩ body
    (fun k _ => drainAt c T k)
    (fun k acc => by
      rw [hbody]
      simp only [wp_bind]
      refine (drain_step c T k.val (htr ▸ k.isLt) hsrc hdst).trans (wp_mono frame _ _ fun _ => ?_)
      rw [wp_pure]
      iintro HD
      imodintro
      iexact HD) (Q := Q)
  iintro HD HQ
  iapply h
  isplitl [HD]
  · iexact HD
  iintro %acc HD
  iapply HQ
  rw [show (768 : ℕ) = k0_t11_loop.trips from htr.symm]
  iexact HD

/-- The whole body: the tiles computed, issued and waited for. -/
theorem whole_body (hT : tiles (thr (ld0 x0)) (k0_pay28 (ld2 x2)) (ld1 x1) = T) (Q : PUnit → sProp 𝕄) :
    iprop(St c T 0 ∗ owns (c : Thread nD τ) arg0 fullShare x0 ∗ owns (c : Thread nD τ) arg1 fullShare x1 ∗ owns (c : Thread nD τ) arg2 fullShare x2 ∗ (∃ W, owes (c : Thread nD τ) 0 W)) ⊢
      iprop(((drainAt c T 768 ∗ bigSep (Ring.rangeSet 8 0 8) (slotRest c T) ∗ owns (c : Thread nD τ) arg0 fullShare x0 ∗ owns (c : Thread nD τ) arg1 fullShare x1 ∗ owns (c : Thread nD τ) arg2 fullShare x2) -∗ Q ⟨⟩)
      -∗ wp frame (wpE (defs₀ (F := F)) Variants.none (c : Thread nD τ) none) Set.univ (cc0__fused_kernel (F := F) arg0 harg0 arg1 harg1 arg2 harg2 (Memref.whole main_v11) (Memref.isWhole_whole _) (Memref.whole cc0_scratch0) (Memref.isWhole_whole _) cc0_scratch1) Q) := by
  rw [cc0__fused_kernel_eq_skeleton]
  unfold cc0__fused_kernel_skel
  simp only [wp_bind]
  iintro ⟨HS, H0, H1, H2, HW⟩ HQ
  iapply (part1 c arg0 harg0 arg1 harg1 arg2 harg2 x0 _) $$ H0
  iintro H0
  iapply (part2 c arg0 harg0 arg1 harg1 arg2 harg2 x1 x2 (ld0 x0) _) $$ [H1 H2]
  · isplitl [H1]; · iexact H1
    iexact H2
  iintro ⟨H1, H2⟩
  iapply (part3 c T arg0 harg0 arg1 harg1 arg2 harg2 x1 _ _ _ (congrFun hT 0) (congrFun hT 1) _) $$ [HS H1]
  · isplitl [HS]; · iexact HS
    iexact H1
  iintro  ⟨HS, H1⟩
  iapply (part4 c T arg0 harg0 arg1 harg1 arg2 harg2 x1 _ _ (congrFun hT 2) _) $$ [HS H1]
  · isplitl [HS]; · iexact HS
    iexact H1
  iintro  ⟨HS, H1⟩
  iapply (part5 c T arg0 harg0 arg1 harg1 arg2 harg2 x1 _ _ _ _ (congrFun hT 3) _) $$ [HS H1]
  · isplitl [HS]; · iexact HS
    iexact H1
  iintro %w5 ⟨HS, H1⟩
  iapply (part6 c T arg0 harg0 arg1 harg1 arg2 harg2 x1 _ _ _ _ (congrFun hT 4) (congrFun hT 5) _) $$ [HS H1]
  · isplitl [HS]; · iexact HS
    iexact H1
  iintro  ⟨HS, H1⟩
  iapply (part7 c T arg0 harg0 arg1 harg1 arg2 harg2 x1 _ _ _ _ _ (congrFun hT 6) _) $$ [HS H1]
  · isplitl [HS]; · iexact HS
    iexact H1
  iintro  ⟨HS, H1⟩
  iapply (load_slot c T 7 (n := 7) rfl _ _ _) $$ HS
  iintro %v7 HS
  iapply (store_step c T 7 (n := 7) rfl _ _ (congrFun hT 7) _ _ _) $$ HS
  iintro HS
  iapply (issue_loop c T 7 (n := 8) rfl k0_t10_loop (by decide) k0_t10_ok _ k0_off8 k0_off8_inb (fun _ _ => rfl) off8 _) $$ HS
  iintro HS
  ihave HD := (drain_start c T) $$ HS HW
  icases HD with ⟨HD, HR⟩
  iapply (drain_loop c T _ _ _ (fun _ _ => rfl) _) $$ HD
  iintro HD
  rw [wp_pure]
  imodintro
  iapply HQ
  isplitl [HD]; · iexact HD
  isplitl [HR]; · iexact HR
  isplitl [H0]; · iexact H0
  isplitl [H1]; · iexact H1
  iexact H2

end Parts

end Cert.KernelIdeal.Run

end
-- ==== Proof.LaunchIdeal.lean ====
module

public import proofs.«01_k».proof.Proof.BodyIdeal

/-! # The launch

The region's entry and exit states, the body's obligation, and the run of the whole program: the arguments end as they
began and the result array holds, in every channel of batch entry `b`, that entry's tile. -/

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## Entry and exit of the body -/

section Ends

variable (c : Dev nD) (T : Fin 8 → FVec F S1x224x224 .f32)

/-- The scratch array held whole is its slots. -/
theorem scr_blocks (f : Buf (Elt F) ((c : Thread nD τ).loc cc0_scratch0)) :
    (((c : Thread nD τ).loc cc0_scratch0) ↦{fullShare} f : sProp 𝕄) = bigSep Finset.univ fun b : Fin 8 => ((c : Thread nD τ).loc cc0_scratch0) ↦[slotSet b]{fullShare} f :=
  Ring.pointsTo_blocks (ℓ := (c : Thread nD τ).loc cc0_scratch0) slotSet slot_disjoint slot_cover f

/-- The result array held whole is its blocks. -/
theorem res_blocks (f : Buf (Elt F) ((c : Thread nD τ).loc main_v11)) :
    (((c : Thread nD τ).loc main_v11) ↦{fullShare} f : sProp 𝕄) = bigSep Finset.univ fun t : Fin 768 => ((c : Thread nD τ).loc main_v11) ↦[blkSet t]{fullShare} f :=
  Ring.pointsTo_blocks (ℓ := (c : Thread nD τ).loc main_v11) blkSet blk_disjoint blk_cover f

theorem slot_at (b : Fin 8) (f : Buf (Elt F) ((c : Thread nD τ).loc cc0_scratch0)) :
    (((c : Thread nD τ).loc cc0_scratch0) ↦[slotSet b]{fullShare} f : sProp 𝕄) = slotAt c b fullShare f := by
  unfold slotAt; rw [slot_set]; rfl

theorem blk_at (t : Fin 768) (f : Buf (Elt F) ((c : Thread nD τ).loc main_v11)) :
    (((c : Thread nD τ).loc main_v11) ↦[blkSet t]{fullShare} f : sProp 𝕄) = blkAt c t f := by
  unfold blkAt; rw [blk_set]; rfl

theorem blks_own (g : Buf (Elt F) ((c : Thread nD τ).loc main_v11)) :
    (bigSep Finset.univ (fun t : Fin 768 => ((c : Thread nD τ).loc main_v11) ↦[blkSet t]{fullShare} g) : sProp 𝕄) ⊢ bigSep Finset.univ (blkOwn c) :=
  BI.bigSep_mono fun t _ => (show (((c : Thread nD τ).loc main_v11) ↦[blkSet t]{fullShare} g : sProp 𝕄) ⊢ blkOwn c t by
    unfold blkOwn; rw [blk_at]; iintro H; iexists g; iexact H)

theorem slots_own (f : Buf (Elt F) ((c : Thread nD τ).loc cc0_scratch0)) :
    (bigSep Finset.univ (fun b : Fin 8 => ((c : Thread nD τ).loc cc0_scratch0) ↦[slotSet b]{fullShare} f) : sProp 𝕄) ⊢ bigSep Finset.univ (slotOwn c) :=
  BI.bigSep_mono fun b _ => (show (((c : Thread nD τ).loc cc0_scratch0) ↦[slotSet b]{fullShare} f : sProp 𝕄) ⊢ slotOwn c b by
    unfold slotOwn; rw [slot_at]; iintro H; iexists f; iexact H)

theorem slots_back :
    (bigSep Finset.univ (fun b : Fin 8 => slotAt c b fullShare (scrAt c T b)) : sProp 𝕄) ⊢ (((c : Thread nD τ).loc cc0_scratch0) ↦{fullShare} (scr T : Buf (Elt F) ((c : Thread nD τ).loc cc0_scratch0))) := by
  rw [scr_blocks]; exact BI.bigSep_mono fun b _ => (show slotAt c b fullShare (scrAt c T b) ⊢ (((c : Thread nD τ).loc cc0_scratch0) ↦[slotSet b]{fullShare} (scr T : Buf (Elt F) ((c : Thread nD τ).loc cc0_scratch0)) : sProp 𝕄) by
    rw [slot_at]; unfold scrAt; iintro H; iexact H)

theorem blks_back :
    (bigSep Finset.univ (fun t : Fin 768 => blkAt c t (resAt c T t)) : sProp 𝕄) ⊢ (((c : Thread nD τ).loc main_v11) ↦{fullShare} (res T : Buf (Elt F) ((c : Thread nD τ).loc main_v11))) := by
  rw [res_blocks]; exact BI.bigSep_mono fun t _ => (show blkAt c t (resAt c T t) ⊢ (((c : Thread nD τ).loc main_v11) ↦[blkSet t]{fullShare} (res T : Buf (Elt F) ((c : Thread nD τ).loc main_v11)) : sProp 𝕄) by
    rw [blk_at]; unfold resAt; iintro H; iexact H)

/-- From the two arrays whole and the semaphore at zero to the state before slot 0. -/
theorem enter (f : Buf (Elt F) ((c : Thread nD τ).loc cc0_scratch0)) (g : Buf (Elt F) ((c : Thread nD τ).loc main_v11)) :
    iprop(batch c T 0 0 ∗ (((c : Thread nD τ).loc cc0_scratch0) ↦{fullShare} f) ∗ (((c : Thread nD τ).loc main_v11) ↦{fullShare} g)) ⊢ St c T 0 := by
  unfold St
  rw [scr_blocks, res_blocks, Ring.rangeSet_univ, Ring.bigSep_rangeSet_empty (NB := 8) (le_refl 0)]
  rw [show 96 * 0 = 0 from rfl, Ring.rangeSet_univ]
  iintro ⟨HB, HS, HR⟩
  isplitl [HB]; · iexact HB
  isplitl [HR]; · iapply (blks_own c g) $$ HR
  isplitl [HS]; · iapply (slots_own c f) $$ HS
  iempintro

/-- From the state after the drain back to the two arrays whole, the result array filled with the tiles. -/
theorem leave :
    iprop(drainAt c T 768 ∗ bigSep (Ring.rangeSet 8 0 8) (slotRest c T)) ⊢
      iprop((∃ W, owes (c : Thread nD τ) 0 W) ∗ semVal ((c : Thread nD τ), SemLoc.dma sem0) 0
        ∗ (∃ f : Buf (Elt F) ((c : Thread nD τ).loc cc0_scratch0), (((c : Thread nD τ).loc cc0_scratch0) ↦{fullShare} f))
        ∗ (((c : Thread nD τ).loc main_v11) ↦{fullShare} (res T : Buf (Elt F) ((c : Thread nD τ).loc main_v11)))) := by
  unfold drainAt
  rw [if_neg (by decide)]
  rw [show (bigSep Finset.univ (deliv c T) : sProp 𝕄) = iprop(bigSep Finset.univ (fun t => blkAt c t (resAt c T t)) ∗ bigSep Finset.univ (fun t => slotTok c T (slotOf t) (chOf t))) from BI.bigSep_sep _ _ _]
  have hj := slots_join c T 8 0 rfl
  rw [show 96 * 0 = 0 from rfl, Ring.rangeSet_univ, Ring.rangeSet_univ] at hj
  rw [Ring.rangeSet_univ]
  iintro ⟨⟨HW, Hv, HR, HT⟩, HS⟩
  isplitl [HW]; · iexact HW
  isplitl [Hv]; · iexact Hv
  isplitl [HT HS]
  · iexists (scr T : Buf (Elt F) ((c : Thread nD τ).loc cc0_scratch0))
    iapply (slots_back c T)
    iapply hj
    isplitl [HT]; · iexact HT
    iexact HS
  iapply (blks_back c T) $$ HR

end Ends

/-! ## The program around the region -/

set_option maxHeartbeats 800000 in
/-- The program around the region. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The one grid point. -/
def t0 : Fin cfg0.N := ⟨0, by decide⟩

/-- The body's semaphore. -/
abbrev osem0 : Fin 1 → SemLoc sig := fun _ => SemLoc.dma 3
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 3) 0 := by
  rw [Pipeline.ownSems0_eq_of_list c osem0 [0] (by decide) (by decide)]; rfl

/-- The array the body writes itself. -/
def R0 : Finset (Ref sig .tc) := {main_v11}
theorem H0_sub : (∅ : Finset (Ref sig .tc)) ⊆ Pipeline.restRefs sig spec0 := by decide
theorem R0_sub : R0 ⊆ Pipeline.restRefs sig spec0 \ ∅ := by decide

/-! ## Values -/

/-- The padded scores the body reads. -/
def x0 (c : Dev nD) : S8x3200.Idx → Elt F .f32 := iblk m c 0 t0
/-- The score maps the body reads. -/
def x1 (c : Dev nD) : S8x56x56.Idx → Elt F .f32 := iblk m c 1 t0
/-- The expansion matrix the body reads. -/
def x2 (c : Dev nD) : S224x56.Idx → Elt F .f32 := iblk m c 2 t0

/-- The eight tiles. -/
def TT (c : Dev nD) : Fin 8 → FVec F S1x224x224 .f32 := tiles (thr (ld0 (x0 m c))) (k0_pay28 (ld2 (x2 m c))) (ld1 (x1 m c))

/-- The result array after the region. -/
def G (c : Dev nD) : (b : Ref sig .tc) → Buf (Elt F) ((c : Thread nD τ).loc b) :=
  Function.update (V m c) main_v11 (res (TT m c) : Buf (Elt F) ((c : Thread nD τ).loc main_v11))

theorem G_v11 (c : Dev nD) : G m c main_v11 = (res (TT m c) : Buf (Elt F) ((c : Thread nD τ).loc main_v11)) := Function.update_self ..

/-! ## The proof data -/

/-- The invariant before point `t`: the entry state before the body, the exit state after it. -/
def Phi (c : Dev nD) (n : ℕ) : sProp 𝕄 :=
  if n = 0 then Pipeline.ΦDRV osem0 spec0 ∅ R0 (V m) (V m) c else Pipeline.ΦDRV osem0 spec0 ∅ R0 (V m) (G m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := Phi m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [show (dats m 0 c).after 0 t = iblk m c 0 t from rfl]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by rw [show (dats m 0 c).after 1 t = iblk m c 1 t from rfl]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by rw [show (dats m 0 c).after 2 t = iblk m c 2 t from rfl]; unfold Dat.blockOf iblk; rw [A_eq]; try rfl) t d).trans
    (by unfold Dat.fetched Dat.blockOf iblk; rw [A_eq]; try rfl)

/-! ## The body's obligation -/

theorem PhiDRV_eq (c : Dev nD) (G' : (c : Dev nD) → (b : Ref sig .tc) → Buf (Elt F) ((c : Thread nD τ).loc b)) :
    (Pipeline.ΦDRV osem0 spec0 ∅ R0 (V m) G' c : sProp 𝕄)
      = iprop((∃ f : Buf (Elt F) ((c : Thread nD τ).loc cc0_scratch0), ((c : Thread nD τ).loc cc0_scratch0) ↦{fullShare} f)
          ∗ semVal ((c : Thread nD τ), SemLoc.dma 3) 0 ∗ iprop(emp) ∗ (((c : Thread nD τ).loc main_v11) ↦{fullShare} G' c main_v11)) := by
  unfold Pipeline.ΦDRV
  rw [scopedRest0_eq, ownSems00_eq, BI.bigSep_eq_bigSepL_of_eq (S := R0) [main_v11] (by decide) (by decide), BI.bigSep_eq_bigSepL_of_eq (S := (∅ : Finset (Ref sig .tc))) [] (by decide) (by decide)]
  rfl

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d)))

/-- What the body ends at. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t))

theorem sound_body (c : Dev nD) (t : Fin cfg0.N) :
    bodyPre m c t ⊢ wp frame (wpE (defs₀ (F := F)) Variants.none (c : Thread nD τ) none) Set.univ (bodyAt0 t) (fun _ => bodyPost m c t) := by
  obtain rfl : t = t0 := fin_N0 t
  unfold bodyPre bodyPost bodyAt0
  simp only [before_0, before_1, before_2]
  rw [show (dats m 0 c).Φ t0.succ = Pipeline.ΦDRV osem0 spec0 ∅ R0 (V m) (G m) c from rfl, show (dats m 0 c).Φ t0.castSucc = Pipeline.ΦDRV osem0 spec0 ∅ R0 (V m) (V m) c from rfl,
    PhiDRV_eq, PhiDRV_eq, G_v11]
  unfold Dat.owesAt Pipeline.owesWithin
  rw [show (dats m 0 c).owed t0.castSucc = 0 from rfl, show (dats m 0 c).owed t0.succ = 0 from rfl]
  iintro ⟨⟨⟨%f, HS⟩, Hq, -, HR⟩, ⟨%W, -, HW⟩, ⟨%d0, H0⟩, ⟨%d1, H1⟩, ⟨%d2, H2⟩⟩
  imod (Transfers.batch_alloc' (Lvl := ℕ) (countersEmb (U := Pipeline.UD sig nD τ)) (c : Thread nD τ) () NN (deliv c (TT m c)) (sm := SemLoc.dma 3) (E := Set.univ)) $$ Hq with HB
  iapply (whole_body c (TT m c) _ _ _ _ _ _ (x0 m c) (x1 m c) (x2 m c) rfl _) $$ [HB HS HR H0 H1 H2 HW]
  · isplitl [HB HS HR]
    · iapply (enter c (TT m c) f _)
      isplitl [HB]; · iexact HB
      isplitl [HS]; · iexact HS
      iexact HR
    isplitl [H0]; · iexact H0
    isplitl [H1]; · iexact H1
    isplitl [H2]; · iexact H2
    iexists W; iexact HW
  iintro ⟨HD, HS, H0, H1, H2⟩
  ihave H := (leave c (TT m c)) $$ [HD HS]
  · isplitl [HD]; · iexact HD
    iexact HS
  icases H with ⟨⟨%W', HW⟩, Hq, HS, HR⟩
  isplitl [HS Hq HR]
  · isplitl [HS]; · iexact HS
    isplitl [Hq]; · iexact Hq
    isplitr; · iempintro
    iexact HR
  isplitl [HW]
  · iexists W'; isplitr; · ipureintro; exact fun _ _ => Or.inl trivial
    iexact HW
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The contents of the buffers after the program, the result array's included. -/
abbrev final (c : Dev nD) : Valuation τ sig (Elt F) :=
  StableHlo.after [hostOps1].flatten (Pipeline.withArrays spec0 c (Pipeline.withR (V0 m c) R0 c (G m c)) fun w => (dats m 0 c).arrAt w cfg0.N)

set_option backward.isDefEq.respectTransparency.types false in
theorem run_main : θ_run defs (onTc (τ := τ) (main (F := F))) (s₀ m ρ) (fun r =>
    (∀ c : Dev nD, ∀ b ∈ Pipeline.restRefs sig spec0, r.2.mem ((c.tc : Thread nD τ).loc b) = final m c (Proc.devRef .tc b)) ∧ r.2.sem = fun _ => 0) :=
  Pipeline.θ_run_frame_dmaR_aroundV cfgs (dats m) (0 : Fin 1) launch0 osem0 defs₀ Variants.none ownSemFacts0 ∅ R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := hmain m Variants.none) (hA := A_eq m)
    (hin := fun _ => .rfl) (hout := fun _ => .rfl) (Q' := _) (hQ' := fun r h => ⟨fun c b hb => (h.1 c).2 b hb, h.2⟩)

theorem final_arg0 (c : Dev nD) : final m c (Proc.devRef .tc main_arg0) = m ((c : Thread nD τ).loc main_arg0) := by
  unfold final
  rw [StableHlo.after_of_forall_not_mem (b := Proc.devRef .tc main_arg0) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg0 (by exact (by decide : ∀ w, Pipeline.arrRef spec0 w ≠ main_arg0)),
    Pipeline.withR_of_not_mem (V0 m c) R0 c (G m c) (b := main_arg0) (by decide)]
  exact V_main_arg0 m c

theorem final_arg1 (c : Dev nD) : final m c (Proc.devRef .tc main_arg1) = m ((c : Thread nD τ).loc main_arg1) := by
  unfold final
  rw [StableHlo.after_of_forall_not_mem (b := Proc.devRef .tc main_arg1) _ _ (List.forall_iff_forall_mem.mp (by
      simp only [hostOps1, List.flatten_cons, List.flatten_nil, List.append_nil, List.Forall, StableHlo.unary_writes, Finset.mem_singleton]
      exact StableHlo.devRef_ne_of_ne (by decide))),
    Pipeline.withArrays_of_ne _ c _ _ main_arg1 (by exact (by decide : ∀ w, Pipeline.arrRef spec0 w ≠ main_arg1)),
    Pipeline.withR_of_not_mem (V0 m c) R0 c (G m c) (b := main_arg1) (by decide)]
  exact V_main_arg1 m c

/-- The result: the tiles, the unit axis inserted. -/
theorem final_v12 (c : Dev nD) : final m c (Proc.devRef .tc main_v12)
    = broadcastInDim S8x1x96x224x224 ![0, 2, 3, 4] bcast_S8x96x224x224_S8x1x96x224x224_0_2_3_4 (res (TT m c)) := by
  have h : final m c (Proc.devRef .tc main_v12) = broadcastInDim S8x1x96x224x224 ![0, 2, 3, 4] bcast_S8x96x224x224_S8x1x96x224x224_0_2_3_4
      (Pipeline.withArrays spec0 c (Pipeline.withR (V0 m c) R0 c (G m c)) (fun w => (dats m 0 c).arrAt w cfg0.N) (Proc.devRef .tc main_v11)) := by
    unfold final
    simp only [hostOps1, List.flatten_cons, List.flatten_nil, List.append_nil, StableHlo.after_cons, StableHlo.after_nil]
    rfl
  rw [h, Pipeline.withArrays_of_ne _ c _ _ main_v11 (by exact (by decide : ∀ w, Pipeline.arrRef spec0 w ≠ main_v11)),
    Pipeline.withR_of_mem (V0 m c) R0 c (G m c) (b := main_v11) (by decide), G_v11]

/-- The frame: the arguments end as they began and every semaphore counter ends at zero. -/
theorem frame_run : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c main_arg0 (Pipeline.mem_restRefs_of main_arg0 (by decide) (by decide))).trans (final_arg0 m c),
    (h.1 c main_arg1 (Pipeline.mem_restRefs_of main_arg1 (by decide) (by decide))).trans (final_arg1 m c)⟩, h.2⟩) (run_main m ρ)

/-- The value: the result array holds the tiles. -/
theorem value_run : θ_run defs (onTc (τ := τ) (main (F := F))) (s₀ m ρ) (fun r => ∀ c : Dev nD,
      r.2.mem ((c.tc : Thread nD τ).loc main_v12) = broadcastInDim S8x1x96x224x224 ![0, 2, 3, 4] bcast_S8x96x224x224_S8x1x96x224x224_0_2_3_4 (res (TT m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c main_v12 (Pipeline.mem_restRefs_of main_v12 (by decide) (by decide))).trans (final_v12 m c),
    (h.1 c main_arg0 (Pipeline.mem_restRefs_of main_arg0 (by decide) (by decide))).trans (final_arg0 m c),
    (h.1 c main_arg1 (Pipeline.mem_restRefs_of main_arg1 (by decide) (by decide))).trans (final_arg1 m c)⟩) (run_main m ρ)

end Cert.KernelIdeal.Run

end
-- ==== Proof.FrameReference.lean ====
/- The reference runs to the end, keeps its arguments and uses no semaphore. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

/-- The reference's frame, read off its run. -/
theorem frame_reference : Cert.quiescent_ReferenceIdeal (hReferenceIdeal := Cert.ReferenceIdeal.Gen.facts) :=
  fun m ρ _ => (θ_run Cert.ReferenceIdeal.defs _ _).mono
    (fun r h => ⟨fun c => ⟨(h c).2.1, (h c).2.2⟩, Idealize.ShloMosaic.sem_eq_zero_of_no_sems (by decide) r.2⟩)
    (Cert.ReferenceIdeal.Value.run (F := Ideal) m ρ)

end Cert.Proof

end
-- ==== Proof.Nucleus.lean ====
/- Counting and sums over a finite row of real scores: the pure mathematics behind the threshold.
   No program is mentioned here. -/
module

public import Idealize.ShloMosaic.PureOps.Ideal
public import Mathlib.Tactic.FieldSimp
public import Mathlib.Tactic.IntervalCases
public import Mathlib.Tactic.Linarith
public import Mathlib.Tactic.NormNum
public import Mathlib.Tactic.Positivity
public import Mathlib.Tactic.Ring

@[expose] public section

noncomputable section

open scoped Classical

namespace Cert.Nucleus

variable {n : ℕ}

/-- How many scores exceed `t`. -/
def above (v : Fin n → ℝ) (t : ℝ) : ℕ := (Finset.univ.filter fun j => t < v j).card
/-- How many scores are at least `t`. -/
def atLeast (v : Fin n → ℝ) (t : ℝ) : ℕ := (Finset.univ.filter fun j => t ≤ v j).card
/-- How many scores equal `t`. -/
def equal (v : Fin n → ℝ) (t : ℝ) : ℕ := (Finset.univ.filter fun j => v j = t).card
/-- The sum of the scores that exceed `t`. -/
def massAbove (v : Fin n → ℝ) (t : ℝ) : ℝ := ∑ j, if t < v j then v j else 0

/-- A score at which exactly the first `k` of the row, counted from the greatest, end: `k` scores reach it,
    and fewer than `k` exceed it. -/
def IsCut (v : Fin n → ℝ) (k t : ℝ) : Prop := k ≤ atLeast v t ∧ (above v t : ℝ) < k

theorem atLeast_le_above (v : Fin n → ℝ) {s t : ℝ} (h : s < t) : atLeast v t ≤ above v s :=
  Finset.card_le_card fun j hj => by
    simp only [Finset.mem_filter, Finset.mem_univ, true_and] at hj ⊢
    exact lt_of_lt_of_le h hj

/-- There is at most one cut. -/
theorem IsCut.unique {v : Fin n → ℝ} {k s t : ℝ} (hs : IsCut v k s) (ht : IsCut v k t) : s = t := by
  rcases lt_trichotomy s t with h | h | h
  · have h1 : (atLeast v t : ℝ) ≤ above v s := by exact_mod_cast atLeast_le_above v h
    have := ht.1; have := hs.2; linarith
  · exact h
  · have h1 : (atLeast v s : ℝ) ≤ above v t := by exact_mod_cast atLeast_le_above v h
    have := hs.1; have := ht.2; linarith

theorem atLeast_eq_add (v : Fin n → ℝ) (t : ℝ) : atLeast v t = above v t + equal v t := by
  unfold atLeast above equal
  rw [← Finset.card_union_of_disjoint]
  · congr 1
    ext j
    simp only [Finset.mem_filter, Finset.mem_univ, true_and, Finset.mem_union]
    constructor
    · intro h
      rcases lt_or_eq_of_le h with h | h
      · exact Or.inl h
      · exact Or.inr h.symm
    · rintro (h | h)
      · exact h.le
      · exact h.ge
  · rw [Finset.disjoint_left]
    intro j hj hj'
    simp only [Finset.mem_filter, Finset.mem_univ, true_and] at hj hj'
    exact absurd hj' hj.ne'

/-- A rearranged row has the same counts and sums. -/
theorem above_comp (v : Fin n → ℝ) (σ : Equiv.Perm (Fin n)) (t : ℝ) : above (fun i => v (σ i)) t = above v t := by
  unfold above
  rw [Finset.card_filter, Finset.card_filter]
  exact Equiv.sum_comp σ fun j => if t < v j then 1 else 0

theorem atLeast_comp (v : Fin n → ℝ) (σ : Equiv.Perm (Fin n)) (t : ℝ) : atLeast (fun i => v (σ i)) t = atLeast v t := by
  unfold atLeast
  rw [Finset.card_filter, Finset.card_filter]
  exact Equiv.sum_comp σ fun j => if t ≤ v j then 1 else 0

theorem equal_comp (v : Fin n → ℝ) (σ : Equiv.Perm (Fin n)) (t : ℝ) : equal (fun i => v (σ i)) t = equal v t := by
  unfold equal
  rw [Finset.card_filter, Finset.card_filter]
  exact Equiv.sum_comp σ fun j => if v j = t then 1 else 0

theorem massAbove_comp (v : Fin n → ℝ) (σ : Equiv.Perm (Fin n)) (t : ℝ) :
    massAbove (fun i => v (σ i)) t = massAbove v t :=
  Equiv.sum_comp σ fun j => if t < v j then v j else 0

/-- A property that passes to every earlier position holds exactly on the first `card` positions. -/
theorem iff_lt_card (P : Fin n → Prop) (hP : ∀ i j : Fin n, i ≤ j → P j → P i) (i : Fin n) :
    P i ↔ i.val < (Finset.univ.filter P).card := by
  constructor
  · intro h
    have : (Finset.Iic i).card ≤ (Finset.univ.filter P).card := Finset.card_le_card fun j hj => by
      simp only [Finset.mem_filter, Finset.mem_univ, true_and]
      exact hP j i (Finset.mem_Iic.mp hj) h
    rw [Fin.card_Iic] at this
    omega
  · intro h
    by_contra hn
    have : (Finset.univ.filter P).card ≤ (Finset.Iio i).card := Finset.card_le_card fun j hj => by
      simp only [Finset.mem_filter, Finset.mem_univ, true_and] at hj
      rw [Finset.mem_Iio]
      by_contra hij
      exact hn (hP i j (not_lt.mp hij) hj)
    rw [Fin.card_Iio] at this
    omega

theorem lt_iff_above {d : Fin n → ℝ} (hd : Antitone d) (t : ℝ) (i : Fin n) : t < d i ↔ i.val < above d t :=
  iff_lt_card (fun j => t < d j) (fun _ _ h h' => lt_of_lt_of_le h' (hd h)) i

theorem le_iff_atLeast {d : Fin n → ℝ} (hd : Antitone d) (t : ℝ) (i : Fin n) : t ≤ d i ↔ i.val < atLeast d t :=
  iff_lt_card (fun j => t ≤ d j) (fun _ _ h h' => le_trans h' (hd h)) i

/-- In a row sorted from the greatest, position `k - 1` is the cut for `k`. -/
theorem isCut_sorted {d : Fin n → ℝ} (hd : Antitone d) (i : Fin n) : IsCut d ((i.val + 1 : ℕ) : ℝ) (d i) := by
  constructor
  · have := (le_iff_atLeast hd (d i) i).mp le_rfl
    exact_mod_cast this
  · have : ¬ i.val < above d (d i) := fun h => lt_irrefl _ ((lt_iff_above hd (d i) i).mpr h)
    exact_mod_cast (by omega : above d (d i) < i.val + 1)

/-! ## The mass of the first positions of a sorted row -/

/-- The sum of the first `N` entries. -/
def mass (d : Fin n → ℝ) (N : ℕ) : ℝ := ∑ i, if i.val < N then d i else 0

theorem mass_mono {d : Fin n → ℝ} (h0 : ∀ i, 0 ≤ d i) {N M : ℕ} (h : N ≤ M) : mass d N ≤ mass d M := by
  refine Finset.sum_le_sum fun i _ => ?_
  by_cases h1 : i.val < N
  · rw [if_pos h1, if_pos (by omega)]
  · rw [if_neg h1]
    split
    · exact h0 i
    · exact le_rfl

/-- Among the entries equal to `w` the mass grows by `w` each. -/
theorem mass_eq {d : Fin n → ℝ} (hd : Antitone d) (w : ℝ) {N : ℕ} (h1 : above d w ≤ N) (h2 : N ≤ atLeast d w) :
    mass d N = massAbove d w + ((N - above d w : ℕ) : ℝ) * w := by
  have hN : N ≤ n := h2.trans ((Finset.card_le_univ _).trans_eq (Fintype.card_fin n))
  have key : ∀ i : Fin n, (if i.val < N then d i else 0)
      = (if w < d i then d i else 0) + (if above d w ≤ i.val ∧ i.val < N then w else 0) := by
    intro i
    by_cases ha : i.val < above d w
    · rw [if_pos (by omega), if_pos ((lt_iff_above hd w i).mpr ha), if_neg (by omega), add_zero]
    · rw [if_neg (fun h => ha ((lt_iff_above hd w i).mp h)), zero_add]
      by_cases hb : i.val < N
      · rw [if_pos hb, if_pos ⟨by omega, hb⟩]
        have h3 : w ≤ d i := (le_iff_atLeast hd w i).mpr (by omega)
        have h4 : ¬ w < d i := fun h => ha ((lt_iff_above hd w i).mp h)
        exact le_antisymm (not_lt.mp h4) h3
      · rw [if_neg hb, if_neg (fun h => hb h.2)]
  unfold mass massAbove
  rw [Finset.sum_congr rfl fun i _ => key i, Finset.sum_add_distrib]
  congr 1
  rw [← Finset.sum_filter, Finset.sum_const, nsmul_eq_mul]
  congr 2
  have : (Finset.univ.filter fun i : Fin n => above d w ≤ i.val ∧ i.val < N).card = (Finset.Ico (above d w) N).card := by
    rw [← Finset.card_map (Fin.valEmbedding)]
    congr 1
    ext k
    simp only [Finset.mem_map, Finset.mem_filter, Finset.mem_univ, true_and, Fin.valEmbedding_apply, Finset.mem_Ico]
    constructor
    · rintro ⟨i, hi, rfl⟩; exact hi
    · intro hk; exact ⟨⟨k, by omega⟩, hk, rfl⟩
  rw [this, Nat.card_Ico]

/-- Where the running mass crosses a level `E`: with `w` a score whose excess mass lies below `E` and whose
    inclusive mass reaches `E`, the positions whose running mass lies below `E` number the scores above `w`
    and all but the last of the copies of `w` needed. -/
theorem crossing {d : Fin n → ℝ} (hd : Antitone d) (h0 : ∀ i, 0 ≤ d i) {w E : ℝ} (hw : 0 < w)
    (h1 : massAbove d w < E) (h2 : E ≤ massAbove d w + equal d w * w) :
    ((Finset.univ.filter fun i : Fin n => mass d (i.val + 1) < E).card : ℤ)
      = above d w + (⌈(E - massAbove d w) / w⌉ - 1) := by
  set x := (E - massAbove d w) / w with hx
  have hx0 : 0 < x := div_pos (by linarith) hw
  have hxw : x * w = E - massAbove d w := div_mul_cancel₀ _ hw.ne'
  have hxm : x ≤ equal d w := by
    rw [hx, div_le_iff₀ hw]; linarith
  obtain ⟨q, hq⟩ : ∃ q : ℕ, ⌈x⌉ = (q : ℤ) + 1 := by
    have : 0 < ⌈x⌉ := Int.ceil_pos.mpr hx0
    exact ⟨(⌈x⌉ - 1).toNat, by omega⟩
  have hq1 : (q : ℝ) < x := by
    have := Int.ceil_lt_add_one x
    rw [hq] at this
    push_cast at this
    linarith
  have hq2 : x ≤ (q : ℝ) + 1 := by
    have := Int.le_ceil x
    rw [hq] at this
    exact_mod_cast this
  have hqm : q + 1 ≤ equal d w := by
    have : (q : ℝ) < equal d w := lt_of_lt_of_le hq1 hxm
    exact_mod_cast this
  have hat := atLeast_eq_add d w
  have hle : atLeast d w ≤ n := (Finset.card_le_univ _).trans_eq (Fintype.card_fin n)
  have m1 : mass d (above d w + q) < E := by
    rw [mass_eq hd w (by omega) (by omega), Nat.add_sub_cancel_left]
    nlinarith
  have m2 : E ≤ mass d (above d w + q + 1) := by
    rw [mass_eq hd w (by omega) (by omega), show above d w + q + 1 - above d w = q + 1 by omega]
    push_cast
    nlinarith
  have hset : (Finset.univ.filter fun i : Fin n => mass d (i.val + 1) < E)
      = Finset.univ.filter fun i : Fin n => i.val < above d w + q := by
    ext i
    simp only [Finset.mem_filter, Finset.mem_univ, true_and]
    constructor
    · intro h
      by_contra hn
      exact absurd (m2.trans (mass_mono h0 (by omega : above d w + q + 1 ≤ i.val + 1))) (not_le.mpr h)
    · intro h
      exact lt_of_le_of_lt (mass_mono h0 (by omega)) m1
  rw [hset, hq]
  have : (Finset.univ.filter fun i : Fin n => i.val < above d w + q).card = above d w + q := by
    rw [Fin.card_filter_val_lt]
    omega
  rw [this]
  push_cast
  ring

end Cert.Nucleus

end
-- ==== Proof.Narrow.lean ====
/- The four-way interval search: what its bounds satisfy after any number of steps. -/
module

public import proofs.«01_k».proof.Proof.Nucleus

@[expose] public section

noncomputable section

open scoped Classical

namespace Cert.Nucleus

/-- The middle of an interval. -/
def mid (a b : ℝ) : ℝ := (a + b) * (1 / 2)

/-- One step: the bounds move to the first of the three inner quarter points at which `P` holds, and to the
    point before it. -/
def narrow (P : ℝ → Prop) (a : ℝ × ℝ) : ℝ × ℝ :=
  (if P (mid a.1 (mid a.1 a.2)) then a.1 else if P (mid a.1 a.2) then mid a.1 (mid a.1 a.2)
    else if P (mid (mid a.1 a.2) a.2) then mid a.1 a.2 else mid (mid a.1 a.2) a.2,
   if P (mid a.1 (mid a.1 a.2)) then mid a.1 (mid a.1 a.2) else if P (mid a.1 a.2) then mid a.1 a.2
    else if P (mid (mid a.1 a.2) a.2) then mid (mid a.1 a.2) a.2 else a.2)

/-- After `N` steps from `(0, 1)` the bounds are neighbours on the grid of `4 ^ N`; `P` fails at the lower one
    unless it is still `0`, and holds at the upper one unless it is still `1`. -/
theorem narrow_iterate (P : ℝ → Prop) (N : ℕ) :
    ∃ a : ℕ, a + 1 ≤ 4 ^ N ∧ (narrow P)^[N] (0, 1) = ((a : ℝ) / 4 ^ N, ((a : ℝ) + 1) / 4 ^ N)
      ∧ (a = 0 ∨ ¬ P ((a : ℝ) / 4 ^ N)) ∧ (a + 1 = 4 ^ N ∨ P (((a : ℝ) + 1) / 4 ^ N)) := by
  induction N with
  | zero => exact ⟨0, by norm_num, by simp, Or.inl rfl, Or.inl rfl⟩
  | succ N ih =>
    obtain ⟨a, ha, he, hlo, hhi⟩ := ih
    have hp : (4 : ℝ) ^ N ≠ 0 := by positivity
    have hpow : (4 : ℕ) ^ (N + 1) = 4 * 4 ^ N := by ring
    have e0 : (a : ℝ) / 4 ^ N = ((4 * a : ℕ) : ℝ) / 4 ^ (N + 1) := by
      push_cast; field_simp; ring
    have e2 : mid ((a : ℝ) / 4 ^ N) (((a : ℝ) + 1) / 4 ^ N) = ((4 * a + 2 : ℕ) : ℝ) / 4 ^ (N + 1) := by
      unfold mid; push_cast; field_simp; ring
    have e1 : mid ((a : ℝ) / 4 ^ N) (((4 * a + 2 : ℕ) : ℝ) / 4 ^ (N + 1)) = ((4 * a + 1 : ℕ) : ℝ) / 4 ^ (N + 1) := by
      unfold mid; push_cast; field_simp; ring
    have e3 : mid (((4 * a + 2 : ℕ) : ℝ) / 4 ^ (N + 1)) (((a : ℝ) + 1) / 4 ^ N) = ((4 * a + 3 : ℕ) : ℝ) / 4 ^ (N + 1) := by
      unfold mid; push_cast; field_simp; ring
    have e4 : ((a : ℝ) + 1) / 4 ^ N = ((4 * a + 4 : ℕ) : ℝ) / 4 ^ (N + 1) := by
      push_cast; field_simp; ring
    have s1 : ((4 * a + 1 : ℕ) : ℝ) = ((4 * a : ℕ) : ℝ) + 1 := by push_cast; ring
    have s2 : ((4 * a + 2 : ℕ) : ℝ) = ((4 * a + 1 : ℕ) : ℝ) + 1 := by push_cast; ring
    have s3 : ((4 * a + 3 : ℕ) : ℝ) = ((4 * a + 2 : ℕ) : ℝ) + 1 := by push_cast; ring
    have s4 : ((4 * a + 4 : ℕ) : ℝ) = ((4 * a + 3 : ℕ) : ℝ) + 1 := by push_cast; ring
    rw [Function.iterate_succ_apply', he]
    have hstep : narrow P ((a : ℝ) / 4 ^ N, ((a : ℝ) + 1) / 4 ^ N)
        = (if P (((4 * a + 1 : ℕ) : ℝ) / 4 ^ (N + 1)) then ((4 * a : ℕ) : ℝ) / 4 ^ (N + 1)
            else if P (((4 * a + 2 : ℕ) : ℝ) / 4 ^ (N + 1)) then ((4 * a + 1 : ℕ) : ℝ) / 4 ^ (N + 1)
            else if P (((4 * a + 3 : ℕ) : ℝ) / 4 ^ (N + 1)) then ((4 * a + 2 : ℕ) : ℝ) / 4 ^ (N + 1)
            else ((4 * a + 3 : ℕ) : ℝ) / 4 ^ (N + 1),
           if P (((4 * a + 1 : ℕ) : ℝ) / 4 ^ (N + 1)) then ((4 * a + 1 : ℕ) : ℝ) / 4 ^ (N + 1)
            else if P (((4 * a + 2 : ℕ) : ℝ) / 4 ^ (N + 1)) then ((4 * a + 2 : ℕ) : ℝ) / 4 ^ (N + 1)
            else if P (((4 * a + 3 : ℕ) : ℝ) / 4 ^ (N + 1)) then ((4 * a + 3 : ℕ) : ℝ) / 4 ^ (N + 1)
            else ((4 * a + 4 : ℕ) : ℝ) / 4 ^ (N + 1)) := by
      unfold narrow
      simp only [e2, e1, e3]
      rw [e0, e4]
    rw [hstep]
    by_cases h1 : P (((4 * a + 1 : ℕ) : ℝ) / 4 ^ (N + 1))
    · refine ⟨4 * a, by omega, ?_, ?_, Or.inr (by rw [← s1]; exact h1)⟩
      · rw [if_pos h1, if_pos h1, ← s1]
      · rcases hlo with h | h
        · exact Or.inl (by omega)
        · exact Or.inr (by rw [← e0]; exact h)
    by_cases h2 : P (((4 * a + 2 : ℕ) : ℝ) / 4 ^ (N + 1))
    · refine ⟨4 * a + 1, by omega, ?_, Or.inr h1, Or.inr (by rw [← s2]; exact h2)⟩
      rw [if_neg h1, if_neg h1, if_pos h2, if_pos h2, ← s2]
    by_cases h3 : P (((4 * a + 3 : ℕ) : ℝ) / 4 ^ (N + 1))
    · refine ⟨4 * a + 2, by omega, ?_, Or.inr h2, Or.inr (by rw [← s3]; exact h3)⟩
      rw [if_neg h1, if_neg h1, if_neg h2, if_neg h2, if_pos h3, if_pos h3, ← s3]
    · refine ⟨4 * a + 3, by omega, ?_, Or.inr h3, ?_⟩
      · rw [if_neg h1, if_neg h1, if_neg h2, if_neg h2, if_neg h3, if_neg h3, ← s4]
      · rcases hhi with h | h
        · exact Or.inl (by omega)
        · exact Or.inr (by rw [← s4, ← e4]; exact h)

end Cert.Nucleus

end
-- ==== Proof.Row.lean ====
/- One row of scores: the threshold the two searches find is the sorted row's entry at the clipped count. -/
module

public import proofs.«01_k».proof.Proof.Narrow

@[expose] public section

noncomputable section

open scoped Classical

namespace Cert.Nucleus

variable {n : ℕ}

/-- A score in `[0, 1)` on the grid of `2 ^ -28`. -/
def OnGrid (x : ℝ) : Prop := ∃ a : ℕ, a < 2 ^ 28 ∧ x = (a : ℝ) / 2 ^ 28

theorem OnGrid.nonneg {x : ℝ} (h : OnGrid x) : 0 ≤ x := by
  obtain ⟨a, -, rfl⟩ := h; positivity

theorem OnGrid.lt_one {x : ℝ} (h : OnGrid x) : x < 1 := by
  obtain ⟨a, ha, rfl⟩ := h
  rw [div_lt_one (by positivity)]
  exact_mod_cast ha

/-- Between neighbouring points of the grid of `2 ^ -28` there is no score. -/
theorem OnGrid.gap28 {x : ℝ} (h : OnGrid x) (a : ℕ) : (a : ℝ) / 2 ^ 28 < x ↔ ((a : ℝ) + 1) / 2 ^ 28 ≤ x := by
  obtain ⟨b, -, rfl⟩ := h
  rw [div_lt_div_iff_of_pos_right (by positivity), div_le_div_iff_of_pos_right (by positivity)]
  exact_mod_cast Nat.lt_iff_add_one_le

/-- Nor between neighbouring points of the grid of `2 ^ -48`. -/
theorem OnGrid.gap48 {x : ℝ} (h : OnGrid x) (a : ℕ) : (a : ℝ) / 4 ^ 24 < x ↔ ((a : ℝ) + 1) / 4 ^ 24 ≤ x := by
  obtain ⟨b, -, rfl⟩ := h
  have e : (b : ℝ) / 2 ^ 28 = ((b * 2 ^ 20 : ℕ) : ℝ) / 4 ^ 24 := by push_cast; norm_num; ring
  rw [e, div_lt_div_iff_of_pos_right (by positivity), div_le_div_iff_of_pos_right (by positivity)]
  exact_mod_cast Nat.lt_iff_add_one_le

/-- The constants: the share `p` of the mass, the guard `ε` added to the total, and the floor `τ` under the
    divisor. -/
structure Consts where
  p : ℝ
  ε : ℝ
  τ : ℝ
  p_pos : 0 < p
  ε_pos : 0 < ε
  /-- Only the zero row has the share of its guarded total above its total. -/
  small : p * ε < (1 - p) / 2 ^ 28
  p_lt : p < 1
  τ_le : τ ≤ 1 / 2 ^ 28

variable (κ : Consts)

/-- The guarded total. -/
def denom (v : Fin n → ℝ) : ℝ := (∑ j, v j) + κ.ε

/-- The first search's test. -/
def light (v : Fin n → ℝ) (t : ℝ) : Prop := massAbove v t / denom κ v < κ.p

/-- The value the first search ends at. -/
def pivot (v : Fin n → ℝ) : ℝ := ((narrow (light κ v))^[14] (0, 1)).2

/-- How many copies of the pivot the kernel keeps, less one. -/
def extra (v : Fin n → ℝ) (w : ℝ) : ℝ :=
  min (max (equal v w - 1) 0) (max 0 ((⌈(κ.p * denom κ v - massAbove v w) / max w κ.τ⌉ : ℝ) - 1))

/-- The kernel's clipped count. -/
def kept (v : Fin n → ℝ) (w : ℝ) : ℝ := min 1568 (max 156 (above v w + extra κ v w + 1))

/-- The threshold the second search ends at. -/
def cutoff (v : Fin n → ℝ) (k : ℝ) : ℝ := ((narrow fun t => (atLeast v t : ℝ) < k)^[24] (0, 1)).1

theorem kept_ge (v : Fin n → ℝ) (w : ℝ) : 156 ≤ kept κ v w := le_min (by norm_num) (le_max_left _ _)
theorem kept_le (v : Fin n → ℝ) (w : ℝ) : kept κ v w ≤ 1568 := min_le_left _ _

/-- The second search ends at the cut. -/
theorem isCut_cutoff {v : Fin n → ℝ} (hv : ∀ j, OnGrid (v j)) {k : ℝ} (h0 : 0 < k) (hn : k ≤ n) :
    IsCut v k (cutoff v k) := by
  obtain ⟨a, ha, he, hlo, hhi⟩ := narrow_iterate (fun t => (atLeast v t : ℝ) < k) 24
  unfold cutoff
  rw [he]
  constructor
  · rcases hlo with h | h
    · have : atLeast v ((a : ℝ) / 4 ^ 24) = n := by
        unfold atLeast
        rw [Finset.filter_true_of_mem fun j _ => by rw [h]; simpa using (hv j).nonneg, Finset.card_univ, Fintype.card_fin]
      rw [this]; exact hn
    · exact not_lt.mp h
  · have e : above v ((a : ℝ) / 4 ^ 24) = atLeast v (((a : ℝ) + 1) / 4 ^ 24) := by
      unfold above atLeast
      congr 1
      ext j
      simp only [Finset.mem_filter, Finset.mem_univ, true_and]
      exact (hv j).gap48 a
    show (above v ((a : ℝ) / 4 ^ 24) : ℝ) < k
    rw [e]
    rcases hhi with h | h
    · have h1 : ((a : ℝ) + 1) / 4 ^ 24 = 1 := by
        have : ((a : ℝ) + 1) = 4 ^ 24 := by exact_mod_cast h
        rw [this]; norm_num
      have : atLeast v (((a : ℝ) + 1) / 4 ^ 24) = 0 := by
        rw [h1]
        unfold atLeast
        rw [Finset.card_eq_zero, Finset.filter_eq_empty_iff]
        exact fun j _ => not_le.mpr (hv j).lt_one
      rw [this]; exact_mod_cast h0
    · exact h

theorem denom_pos {v : Fin n → ℝ} (hv : ∀ j, OnGrid (v j)) : 0 < denom κ v :=
  add_pos_of_nonneg_of_pos (Finset.sum_nonneg fun j _ => (hv j).nonneg) κ.ε_pos

/-- The first search ends just above the level, unless the whole row is zero. -/
theorem pivot_spec {v : Fin n → ℝ} (hv : ∀ j, OnGrid (v j)) :
    (∀ j, v j = 0) ∨ (1 / 2 ^ 28 ≤ pivot κ v ∧ massAbove v (pivot κ v) < κ.p * denom κ v
      ∧ κ.p * denom κ v ≤ massAbove v (pivot κ v) + equal v (pivot κ v) * pivot κ v) := by
  have hD := denom_pos κ hv
  obtain ⟨a, ha, he, hlo, hhi⟩ := narrow_iterate (light κ v) 14
  have e28 : (4 : ℝ) ^ 14 = 2 ^ 28 := by norm_num
  rw [e28] at he hlo hhi
  have hw : pivot κ v = ((a : ℝ) + 1) / 2 ^ 28 := by unfold pivot; rw [he]
  have hup : massAbove v (pivot κ v) < κ.p * denom κ v := by
    rw [hw]
    rcases hhi with h | h
    · have h1 : ((a : ℝ) + 1) / 2 ^ 28 = 1 := by
        have : ((a : ℝ) + 1) = 4 ^ 14 := by exact_mod_cast h
        rw [this]; norm_num
      have : massAbove v (((a : ℝ) + 1) / 2 ^ 28) = 0 := by
        rw [h1]
        exact Finset.sum_eq_zero fun j _ => if_neg (not_lt.mpr (hv j).lt_one.le)
      rw [this]; exact mul_pos κ.p_pos hD
    · exact (div_lt_iff₀ hD).mp h
  have hsplit : massAbove v ((a : ℝ) / 2 ^ 28) = massAbove v (pivot κ v) + equal v (pivot κ v) * pivot κ v := by
    unfold massAbove equal
    rw [← nsmul_eq_mul, ← Finset.sum_const, Finset.sum_filter, ← Finset.sum_add_distrib]
    refine Finset.sum_congr rfl fun j _ => ?_
    rw [hw]
    by_cases h : (a : ℝ) / 2 ^ 28 < v j
    · rw [if_pos h]
      rcases lt_or_eq_of_le (((hv j).gap28 a).mp h) with h' | h'
      · rw [if_pos h', if_neg h'.ne', add_zero]
      · rw [if_neg h'.not_lt, if_pos h'.symm, zero_add, h']
    · rw [if_neg h]
      have h' : v j < ((a : ℝ) + 1) / 2 ^ 28 := not_le.mp fun h'' => h (((hv j).gap28 a).mpr h'')
      rw [if_neg (not_lt.mpr h'.le), if_neg h'.ne, add_zero]
  have hpos : 1 / 2 ^ 28 ≤ pivot κ v := by
    rw [hw]
    gcongr
    have : (0 : ℝ) ≤ a := Nat.cast_nonneg a
    linarith
  have done : ¬ light κ v ((a : ℝ) / 2 ^ 28) → (1 / 2 ^ 28 ≤ pivot κ v ∧ massAbove v (pivot κ v) < κ.p * denom κ v
      ∧ κ.p * denom κ v ≤ massAbove v (pivot κ v) + equal v (pivot κ v) * pivot κ v) := fun h =>
    ⟨hpos, hup, by rw [← hsplit]; exact (le_div_iff₀ hD).mp (not_lt.mp h)⟩
  rcases hlo with h | h
  · by_cases hl : light κ v ((a : ℝ) / 2 ^ 28)
    · left
      rw [h] at hl
      have hm : massAbove v (((0 : ℕ) : ℝ) / 2 ^ 28) = ∑ j, v j := by
        refine Finset.sum_congr rfl fun j _ => ?_
        rw [Nat.cast_zero, zero_div]
        split
        · rfl
        · rename_i h'
          exact le_antisymm (hv j).nonneg (not_lt.mp h')
      unfold light at hl
      rw [hm, div_lt_iff₀ hD] at hl
      unfold denom at hl
      intro j
      by_contra hj
      have h1 : 1 / 2 ^ 28 ≤ v j := by
        have := ((hv j).gap28 0).mp (by simpa using lt_of_le_of_ne (hv j).nonneg (Ne.symm hj))
        simpa using this
      have h2 : v j ≤ ∑ j, v j := Finset.single_le_sum (f := v) (fun i _ => (hv i).nonneg) (Finset.mem_univ j)
      have hs := κ.small
      have hp := κ.p_lt
      nlinarith
    · exact Or.inr (done hl)
  · exact Or.inr (done h)

/-- The reference's count before clipping: the positions of the sorted row whose share of the running mass lies
    below `p`. -/
def counted (d : Fin n → ℝ) : ℕ := (Finset.univ.filter fun i : Fin n => mass d (i.val + 1) / (mass d n + κ.ε) < κ.p).card

theorem mass_all (d : Fin n → ℝ) : mass d n = ∑ i, d i := Finset.sum_congr rfl fun i _ => if_pos i.isLt

/-- The kernel's count is the reference's, unless the row is zero. -/
theorem kept_eq {v : Fin n → ℝ} (hv : ∀ j, OnGrid (v j)) (σ : Equiv.Perm (Fin n)) (hd : Antitone fun i => v (σ i)) :
    (∀ j, v j = 0) ∨ kept κ v (pivot κ v) = ((min 1568 (max 156 (counted κ (fun i => v (σ i)) + 1)) : ℕ) : ℝ) := by
  rcases pivot_spec κ hv with h | ⟨hw, hlt, hle⟩
  · exact Or.inl h
  right
  set w := pivot κ v with hwdef
  have hw0 : 0 < w := lt_of_lt_of_le (by positivity) hw
  have hD := denom_pos κ hv
  have hDe : mass (fun i => v (σ i)) n + κ.ε = denom κ v := by
    rw [mass_all]; unfold denom; rw [Equiv.sum_comp σ v]
  have hcr := crossing hd (fun i => (hv (σ i)).nonneg) (w := w) (E := κ.p * denom κ v) hw0
    (by rw [massAbove_comp]; exact hlt) (by rw [massAbove_comp, equal_comp]; exact hle)
  rw [massAbove_comp, above_comp] at hcr
  have hc : counted κ (fun i => v (σ i))
      = (Finset.univ.filter fun i : Fin n => mass (fun i => v (σ i)) (i.val + 1) < κ.p * denom κ v).card := by
    unfold counted
    rw [hDe]
    congr 1
    ext i
    simp only [Finset.mem_filter, Finset.mem_univ, true_and]
    exact div_lt_iff₀ hD
  rw [← hc] at hcr
  have hmax : max w κ.τ = w := max_eq_left (κ.τ_le.trans hw)
  set x := (κ.p * denom κ v - massAbove v w) / w with hx
  have hx0 : 0 < x := div_pos (by linarith) hw0
  have hxm : x ≤ equal v w := by
    rw [hx, div_le_iff₀ hw0]; linarith
  have hc1 : (1 : ℝ) ≤ ⌈x⌉ := by exact_mod_cast (Int.ceil_pos.mpr hx0 : 0 < ⌈x⌉)
  have hc2 : (⌈x⌉ : ℝ) ≤ equal v w := by
    have : ⌈x⌉ ≤ (equal v w : ℤ) := Int.ceil_le.mpr (by exact_mod_cast hxm)
    exact_mod_cast this
  have hextra : extra κ v w = (⌈x⌉ : ℝ) - 1 := by
    unfold extra
    rw [hmax, ← hx, max_eq_right (by linarith : (0 : ℝ) ≤ ⌈x⌉ - 1)]
    exact min_eq_right ((by linarith : (⌈x⌉ : ℝ) - 1 ≤ equal v w - 1).trans (le_max_left _ _))
  have hcr' : (counted κ (fun i => v (σ i)) : ℝ) = above v w + ((⌈x⌉ : ℝ) - 1) := by exact_mod_cast hcr
  unfold kept
  rw [hextra]
  push_cast
  rw [hcr']

/-- THE THRESHOLD: the second search, for the kernel's clipped count, ends at the entry of the sorted row at the
    reference's clipped count. -/
theorem cutoff_eq {v : Fin n → ℝ} (hv : ∀ j, OnGrid (v j)) (hn : 1568 ≤ n) (σ : Equiv.Perm (Fin n))
    (hd : Antitone fun i => v (σ i)) (i : Fin n)
    (hi : i.val + 1 = min 1568 (max 156 (counted κ (fun i => v (σ i)) + 1))) :
    cutoff v (kept κ v (pivot κ v)) = v (σ i) := by
  have hk1 := kept_ge κ v (pivot κ v)
  have hk2 := kept_le κ v (pivot κ v)
  have hn' : (1568 : ℝ) ≤ n := by exact_mod_cast hn
  have hcut := isCut_cutoff hv (k := kept κ v (pivot κ v)) (by linarith) (by linarith)
  rcases kept_eq κ hv σ hd with h0 | hk
  · refine hcut.unique ⟨?_, ?_⟩
    · have : atLeast v (v (σ i)) = n := by
        unfold atLeast
        rw [Finset.filter_true_of_mem fun j _ => by rw [h0, h0], Finset.card_univ, Fintype.card_fin]
      rw [this]; linarith
    · have : above v (v (σ i)) = 0 := by
        unfold above
        rw [Finset.card_eq_zero, Finset.filter_eq_empty_iff]
        exact fun j _ => by rw [h0, h0]; exact lt_irrefl _
      rw [this]; norm_num; linarith
  · refine hcut.unique ?_
    rw [hk, ← hi]
    have := isCut_sorted hd i
    unfold IsCut at this ⊢
    rwa [atLeast_comp, above_comp] at this

end Cert.Nucleus

end
-- ==== Proof.Literals.lean ====
/- The reals the programs' float literals denote, and the row constants made of them. -/
module

public import proofs.«01_k».proof.Proof.Row

@[expose] public section

noncomputable section

namespace Cert.Nucleus

open Idealize.ShloMosaic

theorem lit_half : Ideal.ofBits .f32 0x3F000000#32 = ((1 / 2 : ℝ) : EReal) := by
  simp [Ideal.ofBits, Ideal.ieee, -EReal.coe_mul, -EReal.coe_pow]; norm_num [zpow_neg]
theorem lit_share : Ideal.ofBits .f32 0x3E4CCCCD#32 = ((13421773 / 2 ^ 26 : ℝ) : EReal) := by
  simp [Ideal.ofBits, Ideal.ieee, -EReal.coe_mul, -EReal.coe_pow]; norm_num [zpow_neg]
theorem lit_guard : Ideal.ofBits .f32 0x322BCC77#32 = ((11258999 / 2 ^ 50 : ℝ) : EReal) := by
  simp [Ideal.ofBits, Ideal.ieee, -EReal.coe_mul, -EReal.coe_pow]; norm_num [zpow_neg]
theorem lit_floor : Ideal.ofBits .f32 0x0DA24260#32 = ((10633824 / 2 ^ 123 : ℝ) : EReal) := by
  simp [Ideal.ofBits, Ideal.ieee, -EReal.coe_mul, -EReal.coe_pow]; norm_num [zpow_neg]
theorem lit_least : Ideal.ofBits .f32 0x431C0000#32 = ((156 : ℝ) : EReal) := by
  simp [Ideal.ofBits, Ideal.ieee, -EReal.coe_mul, -EReal.coe_pow]; norm_num [zpow_neg]
theorem lit_most : Ideal.ofBits .f32 0x44C40000#32 = ((1568 : ℝ) : EReal) := by
  simp [Ideal.ofBits, Ideal.ieee, -EReal.coe_mul, -EReal.coe_pow]; norm_num [zpow_neg]
theorem lit_tenth : Ideal.ofBits .f32 0x3DCCCCCD#32 = ((13421773 / 2 ^ 27 : ℝ) : EReal) := by
  simp [Ideal.ofBits, Ideal.ieee, -EReal.coe_mul, -EReal.coe_pow]; norm_num [zpow_neg]
theorem lit_rest : Ideal.ofBits .f32 0x3F666666#32 = ((15099494 / 2 ^ 24 : ℝ) : EReal) := by
  simp [Ideal.ofBits, Ideal.ieee, -EReal.coe_mul, -EReal.coe_pow]; norm_num [zpow_neg]
theorem lit_ten : Ideal.ofBits .f32 0x41200000#32 = ((10 : ℝ) : EReal) := by
  simp [Ideal.ofBits, Ideal.ieee, -EReal.coe_mul, -EReal.coe_pow]; norm_num [zpow_neg]
theorem lit_scale : Ideal.ofBits .f32 0x4D800000#32 = ((268435456 : ℝ) : EReal) := by
  simp [Ideal.ofBits, Ideal.ieee, -EReal.coe_mul, -EReal.coe_pow]; norm_num [zpow_neg]
theorem lit_minus : Ideal.ofBits .f32 0xBF800000#32 = ((-1 : ℝ) : EReal) := by
  simp [Ideal.ofBits, Ideal.ieee, -EReal.coe_mul, -EReal.coe_pow]; norm_num [zpow_neg]

/-- The kernel's constants. -/
def lits : Consts where
  p := 13421773 / 2 ^ 26
  ε := 11258999 / 2 ^ 50
  τ := 10633824 / 2 ^ 123
  p_pos := by norm_num
  ε_pos := by norm_num
  small := by norm_num
  p_lt := by norm_num
  τ_le := by norm_num

end Cert.Nucleus

end
-- ==== Proof.Grid.lean ====
/- The precondition, read back: every score is a multiple of `1 / 2 ^ 28` from 0 up to and without 1. -/
module

public import proofs.«01_k».proof.Pre_scores_on_grid
public import proofs.«01_k».proof.Proof.Literals
public import proofs.«01_k».proof.Proof.Row
public import Idealize.ShloMosaic.Lib.ReduceAll
public import Idealize.ShloMosaic.Lib.Pointwise
public import Idealize.ShloMosaic.Lib.IdealHost

@[expose] public section

noncomputable section

open scoped Classical

namespace Cert.Pre_scores_on_grid

open Idealize.ShloMosaic
open Cert.Nucleus

/-- The side conditions of the precondition's operations. -/
theorem facts : Facts where
  bcast_S_S8x3136 := by decide
  reducesTo_S8x3136_S_d0_1 := by decide
  h_S_ := by decide

/-- A score in `[0, 1)` that is whole after scaling by `2 ^ 28` is on the grid. -/
theorem onGrid_of {x : EReal} (h0 : 0 ≤ x) (h1 : x < 1) (hf : Ideal.liftRound Int.floor (x * ((268435456 : ℝ) : EReal)) = x * ((268435456 : ℝ) : EReal)) :
    ∃ r : ℝ, x = (r : EReal) ∧ OnGrid r := by
  induction x using EReal.rec with
  | bot => exact absurd h0 (by simp)
  | top => exact absurd h1 (by simp)
  | coe r =>
    refine ⟨r, rfl, ?_⟩
    have h0 : 0 ≤ r := by exact_mod_cast h0
    have h1 : r < 1 := by exact_mod_cast h1
    rw [← EReal.coe_mul, Ideal.liftRound_coe, EReal.coe_eq_coe_iff] at hf
    have hn : (0 : ℤ) ≤ ⌊r * 268435456⌋ := Int.floor_nonneg.mpr (by positivity)
    obtain ⟨a, ha⟩ := Int.eq_ofNat_of_zero_le hn
    rw [ha, Int.cast_natCast] at hf
    refine ⟨a, ?_, ?_⟩
    · have : (a : ℝ) < 268435456 := by rw [hf]; linarith
      have : a < 268435456 := by exact_mod_cast this
      norm_num; exact this
    · rw [hf]; norm_num

/-- A bit that is one comes from a truth value that is true. -/
theorem bit {d : Bool} (h : BitVec.ofBool d = 1#1) : d = true := by revert h; cases d <;> decide

variable [Facts]

/-- The precondition gives each score's place on the grid. -/
theorem onGrid (A : FVec Ideal S8x96x224x224 .f32) (X : FVec Ideal S8x3136 .f32) (h : fn (F := Ideal) A X = fun _ => 1#1)
    (b : Fin 8) (k : Fin 3136) : ∃ r : ℝ, X (ix2 b k) = (r : EReal) ∧ OnGrid r := by
  haveI : Subsingleton S_.Idx := ⟨fun i j => funext fun a => a.elim0⟩
  have h1 := Host.reduce_andi_all _ _ _ _ _ (congrFun h (fun a => a.elim0)) (ix2 b k)
  obtain ⟨h2, h3⟩ := IntOp.andi_eq_one.mp h1
  obtain ⟨h4, h5⟩ := IntOp.andi_eq_one.mp h2
  have h4 : FloatOps.cmpf (F := Ideal) (φ := .f32) .oge (X (ix2 b k)) (Ideal.ofBits .f32 0x00000000#32) = 1#1 := h4
  have h5 : FloatOps.cmpf (F := Ideal) (φ := .f32) .olt (X (ix2 b k)) (Ideal.ofBits .f32 0x3F800000#32) = 1#1 := h5
  have h3 : FloatOps.cmpf (F := Ideal) (φ := .f32) .oeq
      (Ideal.liftRound Int.floor (X (ix2 b k) * Ideal.ofBits .f32 0x4D800000#32)) (X (ix2 b k) * Ideal.ofBits .f32 0x4D800000#32) = 1#1 := h3
  rw [lit_scale] at h3
  simp only [Ideal.cmpf_def, Ideal.cmp] at h3 h4 h5
  rw [Ideal.ofBits_zero_f32] at h4
  rw [Ideal.ofBits_one_f32] at h5
  exact onGrid_of (of_decide_eq_true (bit h4)) (of_decide_eq_true (bit h5)) (of_decide_eq_true (bit h3))

end Cert.Pre_scores_on_grid

end
-- ==== Proof.MaskEntry.lean ====
/- One entry of the mask, from one score and one threshold. -/
module

public import Idealize.ShloMosaic.Lib.Pointwise

@[expose] public section

noncomputable section

namespace Cert.Nucleus

open Idealize.ShloMosaic

/-- The soft mask of the score `s` against the threshold `t`. -/
def softEntry (s t : EReal) : EReal :=
  Ideal.logistic (Ideal.ofBits .f32 0x41200000#32 * (s * Ideal.ofBits .f32 0x3DCCCCCD#32 + s * Ideal.ofBits .f32 0x3F666666#32 - t))

/-- The hard mask, passed through the soft one. -/
def maskEntry (s t : EReal) : EReal :=
  FloatOps.uitofp (F := Ideal) .f32 (BitVec.ofBool (decide (Ideal.ofBits .f32 0x3F000000#32 < softEntry s t))) - softEntry s t + softEntry s t

/-- A bit widened and read as a signed word is the bit read as a number. -/
theorem signed_bit (c : BitVec 1) : FloatOps.sitofp (F := Ideal) .f32 (BitVec.setWidth 32 c) = FloatOps.uitofp (F := Ideal) .f32 c := by
  rcases (show c = 0#1 ∨ c = 1#1 by revert c; decide) with rfl | rfl
  · show (((BitVec.setWidth 32 0#1).toInt : ℝ) : EReal) = (((0#1 : BitVec 1).toNat : ℝ) : EReal)
    simp
  · show (((BitVec.setWidth 32 1#1).toInt : ℝ) : EReal) = (((1#1 : BitVec 1).toNat : ℝ) : EReal)
    simp

/-- Multiplying by a zero-one matrix that has one 1 in each row, on the left and on the right, picks one entry. -/
theorem pick_entry {n : ℕ} (f : Fin n → Fin n → EReal) (a c : Fin n) :
    ∑ k, (∑ l, (if l = a then 1 else 0) * f l k) * (if k = c then 1 else 0) = f a c := by
  have h1 : ∀ k, ∑ l, (if l = a then 1 else 0) * f l k = f a k := by
    intro k
    rw [Finset.sum_eq_single a (fun l _ hl => by rw [if_neg hl, zero_mul]) (fun h => absurd (Finset.mem_univ a) h), if_pos rfl, one_mul]
  rw [Finset.sum_congr rfl fun k _ => by rw [h1 k],
    Finset.sum_eq_single c (fun k _ hk => by rw [if_neg hk, mul_zero]) (fun h => absurd (Finset.mem_univ c) h), if_pos rfl, mul_one]

end Cert.Nucleus

end
-- ==== Proof.Tiles.lean ====
/- The kernel's tile of one batch element, at a pixel. -/
module

public import proofs.«01_k».proof.Proof.BodyIdeal
public import proofs.«01_k».proof.Proof.MaskEntry

@[expose] public section

noncomputable section

namespace Cert.KernelIdeal.Run

open Cert.KernelIdeal Cert.KernelIdeal.Gen Idealize.ShloMosaic Idealize.ShloMosaic.TcCoe Idealize.SL.Sem
open Cert.Nucleus

/-- Row `y` of the matrix has its 1 in column `y / 4`. -/
def Expands (p : FVec Ideal S224x56 .f32) : Prop :=
  ∀ (y : Fin 224) (l : Fin 56), p (ix2 y l) = if l = (⟨y.val / 4, by omega⟩ : Fin 56) then 1 else 0

variable {p : FVec Ideal S224x56 .f32}

/-- The two products with the matrix read the mask entry of the pixel's block. -/
theorem Expands.read (hp : Expands p) (f : Fin 56 → Fin 56 → EReal) (y z : Fin 224) :
    ∑ k : Fin 56, (∑ l : Fin 56, p (ix2 y l) * f l k) * p (ix2 z k) = f ⟨y.val / 4, by omega⟩ ⟨z.val / 4, by omega⟩ := by
  rw [← pick_entry f ⟨y.val / 4, by omega⟩ ⟨z.val / 4, by omega⟩]
  refine Finset.sum_congr rfl fun k _ => ?_
  rw [hp z k, Finset.sum_congr rfl fun l _ => by rw [hp y l]]

theorem tile_at (hp : Expands p) (t : FVec Ideal S8x1 .f32) (m : Fin 8 → FVec Ideal S1x56x56 .f32) (b : Fin 8) (y z : Fin 224) :
    tiles t p m b (ix3 0 y z) = maskEntry (m b (ix3 0 ⟨y.val / 4, by omega⟩ ⟨z.val / 4, by omega⟩)) (t (ix2 b 0)) := by
  have key := fun b => hp.read (fun l k => maskEntry (m b (ix3 0 l k)) (t (ix2 b 0))) y z
  rw [← key b]
  match b with
  | ⟨0, _⟩ =>
    show k0_pay30 p (k0_pay29 t (m 0)) (ix3 0 y z) = _
    pointwise [k0_pay30, k0_pay29]
    simp only [signed_bit]
    rfl
  | ⟨1, _⟩ =>
    show k0_pay31 t p (m 1) (ix3 0 y z) = _
    pointwise [k0_pay31]
    simp only [signed_bit]
    rfl
  | ⟨2, _⟩ =>
    show k0_pay32 t p (m 2) (ix3 0 y z) = _
    pointwise [k0_pay32]
    simp only [signed_bit]
    rfl
  | ⟨3, _⟩ =>
    show k0_pay35 p (k0_pay33 t (m 3)) k0_pay34 (ix3 0 y z) = _
    pointwise [k0_pay35, k0_pay33, k0_pay34]
    simp only [signed_bit]
    rfl
  | ⟨4, _⟩ =>
    show k0_pay37 (k0_pay36 t p (m 4)) (ix3 0 y z) = _
    pointwise [k0_pay37, k0_pay36]
    simp only [signed_bit]
    rfl
  | ⟨5, _⟩ =>
    show k0_pay38 t p (m 5) (ix3 0 y z) = _
    pointwise [k0_pay38]
    simp only [signed_bit]
    rfl
  | ⟨6, _⟩ =>
    show k0_pay42 p (k0_pay39 t) (k0_pay40 (m 6)) k0_pay41 (ix3 0 y z) = _
    pointwise [k0_pay42, k0_pay39, k0_pay40, k0_pay41]
    simp only [signed_bit]
    rfl
  | ⟨7, _⟩ =>
    show k0_pay1 p (k0_pay43 t (m 7)) (k0_pay44 t (m 7)) (ix3 0 y z) = _
    pointwise [k0_pay1, k0_pay43, k0_pay44]
    simp only [signed_bit]
    rfl

end Cert.KernelIdeal.Run

end
-- ==== Proof.RowSums.lean ====
/- Sums along one padded row of extended reals, read as sums over the row's real scores. -/
module

public import proofs.«01_k».proof.Proof.Gen.KernelIdeal.Skeleton
public import Idealize.ShloMosaic.Lib.Pointwise
public import proofs.«01_k».proof.Proof.Literals

@[expose] public section

noncomputable section

open scoped Classical

namespace Cert.KernelIdeal.Run

open Cert.KernelIdeal Cert.KernelIdeal.Gen Idealize.ShloMosaic Idealize.ShloMosaic.TcCoe Idealize.SL.Sem
open Cert.Nucleus

/-- A finite sum of reals, read in the extended reals. -/
theorem coe_sum {ι : Type} (s : Finset ι) (f : ι → ℝ) : ((∑ i ∈ s, f i : ℝ) : EReal) = ∑ i ∈ s, ((f i : ℝ) : EReal) := by
  induction s using Finset.induction_on with
  | empty => simp
  | insert a s ha ih => rw [Finset.sum_insert ha, Finset.sum_insert ha, EReal.coe_add, ih]

/-- A quotient of reals, read in the extended reals. -/
theorem div_coe_coe {y : ℝ} (h : y ≠ 0) (x : ℝ) : Ideal.div (x : EReal) (y : EReal) = ((x / y : ℝ) : EReal) := by
  rw [Ideal.div_coe h, ← EReal.coe_mul, mul_one_div]

/-- A real term that vanishes at `-1` sums along a row padded with `-1` as along the row. -/
theorem sum_padded (n N : ℕ) (hN : n ≤ N) (v : Fin n → ℝ) (g : ℝ → ℝ) (h : g (-1) = 0) :
    ∑ k : Fin N, g (if h : k.val < n then v ⟨k.val, h⟩ else -1) = ∑ j, g (v j) := by
  obtain ⟨m, rfl⟩ := Nat.exists_eq_add_of_le hN
  rw [Fin.sum_univ_add, Finset.sum_eq_zero (s := (Finset.univ : Finset (Fin m))), add_zero]
  · refine Finset.sum_congr rfl fun j _ => ?_
    rw [dif_pos (show (Fin.castAdd m j).val < n from j.isLt)]
    rfl
  · intro i _
    rw [dif_neg (show ¬ (Fin.natAdd n i).val < n by simp), h]

/-- Row `b` of a padded array holds the scores `v`, then `-1`. -/
def HoldsRow (v0 : FVec Ideal S8x3200 .f32) (b : Fin 8) (v : Fin 3136 → ℝ) : Prop :=
  ∀ k : Fin 3200, v0 (ix2 b k) = ((if h : k.val < 3136 then v ⟨k.val, h⟩ else -1 : ℝ) : EReal)

variable {v0 : FVec Ideal S8x3200 .f32} {b : Fin 8} {v : Fin 3136 → ℝ}

/-- A term that vanishes at `-1` sums along the padded row as along the scores. -/
theorem HoldsRow.sum (hx : HoldsRow v0 b v) (g : EReal → EReal) (g' : ℝ → ℝ) (hg : ∀ r : ℝ, g r = ((g' r : ℝ) : EReal))
    (h : g' (-1) = 0) : ∑ k : Fin 3200, g (v0 (ix2 b k)) = ((∑ j, g' (v j) : ℝ) : EReal) := by
  rw [Finset.sum_congr rfl fun k _ => (congrArg g (hx k)).trans (hg _), ← coe_sum]
  exact congrArg _ (sum_padded 3136 3200 (by norm_num) v g' h)

theorem HoldsRow.massAbove (hx : HoldsRow v0 b v) {T : EReal} {t : ℝ} (hT : T = (t : EReal)) (ht : 0 ≤ t) :
    (∑ k : Fin 3200, if T < v0 (ix2 b k) then (if 0 ≤ v0 (ix2 b k) then v0 (ix2 b k) else 0) else 0)
      = ((massAbove v t : ℝ) : EReal) := by
  subst hT
  refine hx.sum (fun x => if (t : EReal) < x then (if 0 ≤ x then x else 0) else 0) (fun r => if t < r then r else 0) (fun r => ?_)
    (if_neg (by linarith))
  simp only [EReal.coe_lt_coe_iff]
  by_cases h : t < r
  · rw [if_pos h, if_pos h, if_pos (by exact_mod_cast (ht.trans h.le))]
  · rw [if_neg h, if_neg h, EReal.coe_zero]

theorem HoldsRow.total (hx : HoldsRow v0 b v) (hv : ∀ j, 0 ≤ v j) :
    (∑ k : Fin 3200, if 0 ≤ v0 (ix2 b k) then v0 (ix2 b k) else 0) = ((∑ j, v j : ℝ) : EReal) := by
  rw [hx.sum (fun x => if 0 ≤ x then x else 0) (fun r => if 0 ≤ r then r else 0) (fun r => ?_) (if_neg (by norm_num))]
  · exact congrArg _ (Finset.sum_congr rfl fun j _ => if_pos (hv j))
  · simp only [EReal.coe_nonneg]
    split <;> simp

theorem card_coe {P : Fin 3136 → Prop} : (((Finset.univ.filter P).card : ℕ) : ℝ) = ∑ j, if P j then (1 : ℝ) else 0 := by
  rw [Finset.card_filter]; push_cast; rfl

theorem HoldsRow.above (hx : HoldsRow v0 b v) {T : EReal} {t : ℝ} (hT : T = (t : EReal)) (ht : 0 ≤ t) :
    (∑ k : Fin 3200, if T < v0 (ix2 b k) then (1 : EReal) else 0) = (((above v t : ℕ) : ℝ) : EReal) := by
  subst hT
  rw [hx.sum (fun x => if (t : EReal) < x then 1 else 0) (fun r => if t < r then 1 else 0) (fun r => ?_) (if_neg (by linarith)),
    Nucleus.above, card_coe]
  simp only [EReal.coe_lt_coe_iff]
  split <;> simp

theorem HoldsRow.equal (hx : HoldsRow v0 b v) {T : EReal} {t : ℝ} (hT : T = (t : EReal)) (ht : 0 ≤ t) :
    (∑ k : Fin 3200, if v0 (ix2 b k) = T then (1 : EReal) else 0) = (((equal v t : ℕ) : ℝ) : EReal) := by
  subst hT
  rw [hx.sum (fun x => if x = (t : EReal) then 1 else 0) (fun r => if r = t then 1 else 0) (fun r => ?_) (if_neg (by linarith)),
    Nucleus.equal, card_coe]
  simp only [EReal.coe_eq_coe_iff]
  split <;> simp

theorem HoldsRow.atLeast (hx : HoldsRow v0 b v) {T : EReal} {t : ℝ} (hT : T = (t : EReal)) (ht : 0 ≤ t) :
    (∑ k : Fin 3200, if T ≤ v0 (ix2 b k) then (1 : EReal) else 0) = (((atLeast v t : ℕ) : ℝ) : EReal) := by
  subst hT
  rw [hx.sum (fun x => if (t : EReal) ≤ x then 1 else 0) (fun r => if t ≤ r then 1 else 0) (fun r => ?_) (if_neg (by linarith)),
    Nucleus.atLeast, card_coe]
  simp only [EReal.coe_le_coe_iff]
  split <;> simp

end Cert.KernelIdeal.Run

end
-- ==== Proof.Entry.lean ====
/- What the kernel's three operands hold: the scores padded with `-1`, the scores as grids, and the matrix that
   repeats each of 56 rows four times. -/
module

public import proofs.«01_k».proof.Proof.LaunchIdeal
public import proofs.«01_k».proof.Proof.Tiles
public import proofs.«01_k».proof.Proof.RowSums
public import Idealize.ShloMosaic.Lib.Pipeline.ValueKit
public import Idealize.ShloMosaic.Lib.Pointwise
public import Idealize.ShloMosaic.Lib.KernelVsHost

@[expose] public section

set_option maxRecDepth 16384

noncomputable section

namespace Cert.KernelIdeal.Run

open Cert.KernelIdeal Cert.KernelIdeal.Gen Idealize.ShloMosaic Idealize.ShloMosaic.TcCoe Idealize.SL.Sem
open Cert.Nucleus

variable (m : (ℓ : Loc nD τ sig) → Buf (Elt Ideal) ℓ)

/-! ## Each operand is one whole buffer -/

theorem idx : ∀ t : Fin cfg0.N, win0_0.index t = ![0, 0] ∧ win0_1.index t = ![0, 0, 0] ∧ win0_2.index t = ![0, 0] :=
  (by decide +kernel : ∀ t : Fin grid0.N, _)

theorem x0_eq (c : Dev nD) : x0 (F := Ideal) m c = V m c main_v0 := by
  unfold x0
  blk_ext! [iblk, idx t0]

theorem x1_eq (c : Dev nD) : x1 (F := Ideal) m c = V m c main_v1 := by
  unfold x1
  blk_ext! [iblk, idx t0]

theorem x2_eq (c : Dev nD) : x2 (F := Ideal) m c = V m c main_v10 := by
  unfold x2
  blk_ext! [iblk, idx t0]

/-! ## What the kernel loads is the operand's entry -/

theorem ld0_at (x : S8x3200.Idx → EReal) (b : Fin 8) (k : Fin 3200) : ld0 (F := Ideal) x (ix2 b k) = x (ix2 b k) := by
  refine congrArg x (funext fun a => Fin.ext ((Rect.idx_unit_val _ _ _ (ix2 b k) a).trans ?_))
  fin_cases a <;> exact Nat.zero_add _

theorem ld1_at (x : S8x56x56.Idx → EReal) (b : Fin 8) (r s : Fin 56) : ld1 (F := Ideal) x b (ix3 0 r s) = x (ix3 b r s) := by
  refine congrArg x (funext fun a => Fin.ext ((Rect.idx_unit_val _ _ _ (ix3 0 r s) a).trans ?_))
  fin_cases a
  · exact Nat.add_zero _
  · exact Nat.zero_add _
  · exact Nat.zero_add _

theorem ld2_at (x : S224x56.Idx → EReal) (y : Fin 224) (l : Fin 56) : ld2 (F := Ideal) x (ix2 y l) = x (ix2 y l) := by
  refine congrArg x (funext fun a => Fin.ext ((Rect.idx_unit_val _ _ _ (ix2 y l) a).trans ?_))
  fin_cases a <;> exact Nat.zero_add _

/-! ## The operands as the program before the kernel computes them -/

/-- The scores of the program. -/
abbrev scores (c : Dev nD) : FVec Ideal S8x3136 .f32 := m ((c : Thread nD τ).loc main_arg1)

theorem padded_eq (c : Dev nD) :
    V m c main_v0 = pad S8x3200 ![0, 0] ![0, 64] ![0, 0] (scores m c) (constant (F := Ideal) S_ .f32 0xBF800000#32)
      pads_S8x3136_S8x3200_000_0640 h_S_ := by
  show StableHlo.after _ _ _ = _
  simp only [hostOps0, hostOps0_1, hostOps0_2, hostOps0_3, hostOps0_4, List.flatten_cons, List.flatten_nil, List.append_nil,
    List.cons_append, List.nil_append]
  entry_read
  rfl

theorem grids_eq (c : Dev nD) : V m c main_v1 = shapeCast S8x56x56 (scores m c) shapeCasts_S8x3136_S8x56x56 := by
  show StableHlo.after _ _ _ = _
  simp only [hostOps0, hostOps0_1, hostOps0_2, hostOps0_3, hostOps0_4, List.flatten_cons, List.flatten_nil, List.append_nil,
    List.cons_append, List.nil_append]
  entry_read
  rfl

/-- The row numbers `0, …, 223`. -/
def rows : IVec S224x1 32 := broadcastInDim S224x1 ![0] bcast_S224_S224x1_0 (iotaInDim S224 32 0)

/-- The same word at every row. -/
def const (w : BitVec 32) : IVec S224x1 32 := broadcastInDim S224x1 ![] bcast_S_S224x1 (constantI S_ 32 w)

/-- The sign of the divisor at every row. -/
def signFour : IVec S224x1 32 := broadcastInDim S224x1 ![] bcast_S_S224x1 (signi (constantI S_ 32 4#32))

/-- The row numbers divided by four as the program does it: the quotient rounded towards zero, less one where the
    remainder is not zero and the signs differ. -/
def quarters : IVec S224x1 32 :=
  select (andi (cmpi .ne (signi rows) signFour) (cmpi .ne (Host.remsi rows (const 4#32)) (const 0#32)))
    (subi (Host.divsi rows (const 4#32)) (const 1#32)) (Host.divsi rows (const 4#32))

/-- The matrix: 1 where a row's number divided by four is the column's number. -/
def matrix : FVec Ideal S224x56 .f32 :=
  uitofp .f32 (cmpi .eq (broadcastInDim S224x56 ![0, 1] bcast_S224x1_S224x56_0_1 quarters)
    (broadcastInDim S224x56 ![0, 1] bcast_S1x56_S224x56_0_1 (broadcastInDim S1x56 ![1] bcast_S56_S1x56_1 (iotaInDim S56 32 0))))

theorem matrix_eq (c : Dev nD) : V m c main_v10 = matrix := by
  show StableHlo.after _ _ _ = _
  simp only [hostOps0, hostOps0_1, hostOps0_2, hostOps0_3, hostOps0_4, List.flatten_cons, List.flatten_nil, List.append_nil,
    List.cons_append, List.nil_append]
  entry_read
  rfl

/-- The sign of a word: `-1`, `0` or `1`. -/
def signWord (w : BitVec 32) : BitVec 32 := if w = 0 then 0 else if w.msb then -1 else 1

/-- One row's number divided by four, in words. -/
def quarter (w : BitVec 32) : BitVec 32 :=
  Scalar.select
    (IntOp.andi (IntOp.cmpi .ne (signWord w) (signWord 4#32)) (IntOp.cmpi .ne (IntOp.remsi .host w 4#32) 0#32))
    (IntOp.subi (IntOp.divsi .host w 4#32) 1#32) (IntOp.divsi .host w 4#32)

theorem rows_at (y : Fin 224) : rows (ix2 y 0) = BitVec.ofNat 32 y.val := by pointwise [rows]

theorem const_at (w : BitVec 32) (y : Fin 224) : const w (ix2 y 0) = w := by pointwise [const]

theorem signFour_at (y : Fin 224) : signFour (ix2 y 0) = signWord 4#32 := by
  unfold signFour
  pointwise
  rfl

theorem quarters_at (y : Fin 224) : quarters (ix2 y 0) = quarter (BitVec.ofNat 32 y.val) := by
  have h : quarters (ix2 y 0) = Scalar.select
      (IntOp.andi (IntOp.cmpi .ne (signWord (rows (ix2 y 0))) (signFour (ix2 y 0)))
        (IntOp.cmpi .ne (IntOp.remsi .host (rows (ix2 y 0)) (const 4#32 (ix2 y 0))) (const 0#32 (ix2 y 0))))
      (IntOp.subi (IntOp.divsi .host (rows (ix2 y 0)) (const 4#32 (ix2 y 0))) (const 1#32 (ix2 y 0)))
      (IntOp.divsi .host (rows (ix2 y 0)) (const 4#32 (ix2 y 0))) := rfl
  rw [h, rows_at, signFour_at, const_at, const_at, const_at]
  rfl

theorem matrix_at (y : Fin 224) (l : Fin 56) :
    matrix (ix2 y l) = FloatOps.uitofp (F := Ideal) .f32 (IntOp.cmpi .eq (quarters (ix2 y 0)) (BitVec.ofNat 32 l.val)) := by
  pointwise [matrix]

theorem quarter_word : ∀ y : Fin 224, quarter (BitVec.ofNat 32 y.val) = BitVec.ofNat 32 (y.val / 4) := by decide +kernel

theorem same_word : ∀ (r l : Fin 56), IntOp.cmpi .eq (BitVec.ofNat 32 r.val) (BitVec.ofNat 32 l.val) = BitVec.ofBool (decide (l = r)) := by
  decide +kernel

/-! ## The three operands, as the tiles read them -/

theorem holdsRow (c : Dev nD) (b : Fin 8) (v : Fin 3136 → ℝ) (hX : ∀ k : Fin 3136, scores m c (ix2 b k) = ((v k : ℝ) : EReal)) :
    HoldsRow (ld0 (x0 m c)) b v := by
  intro k
  refine (ld0_at _ b k).trans ((congrFun ((x0_eq m c).trans (padded_eq m c)) (ix2 b k)).trans ?_)
  by_cases h : k.val < 3136
  · rw [dif_pos h, ← hX]
    refine pad_apply_of_inside _ _ _ _ _ _ _ _ (ix2 b ⟨k.val, h⟩) fun a => ?_
    fin_cases a
    · show b.val = 0 + b.val * (0 + 1); omega
    · show k.val = 0 + k.val * (0 + 1); omega
  · rw [dif_neg h]
    refine (pad_apply_of_not_inside _ _ _ _ _ _ _ _ 1 ?_).trans lit_minus
    rintro ⟨-, -, h'⟩
    have h' : (k.val - 0) / (0 + 1) < 3136 := h'
    omega

theorem grid_at (c : Dev nD) (b : Fin 8) (r s : Fin 56) :
    ld1 (x1 m c) b (ix3 0 r s) = scores m c (ix2 b ⟨r.val * 56 + s.val, by omega⟩) := by
  refine (ld1_at _ b r s).trans ((congrFun ((x1_eq m c).trans (grids_eq m c)) (ix3 b r s)).trans ?_)
  pointwise

theorem expands (c : Dev nD) : Expands (k0_pay28 (ld2 (x2 m c))) := by
  intro y l
  have h : k0_pay28 (ld2 (x2 m c)) (ix2 y l) = ld2 (x2 m c) (ix2 y l) := by
    unfold k0_pay28
    pointwise
  rw [h, ld2_at, x2_eq, matrix_eq, matrix_at, quarters_at, quarter_word, same_word ⟨y.val / 4, by omega⟩ l]
  show (((BitVec.ofBool (decide (l = (⟨y.val / 4, _⟩ : Fin 56)))).toNat : ℝ) : EReal) = _
  by_cases e : l = (⟨y.val / 4, by omega⟩ : Fin 56)
  · rw [if_pos e, decide_eq_true e]; simp
  · rw [if_neg e, decide_eq_false e]; simp

end Cert.KernelIdeal.Run

end
-- ==== Proof.Search.lean ====
/- The two searches over one row, read as the real searches. -/
module

public import proofs.«01_k».proof.Proof.BodyIdeal
public import proofs.«01_k».proof.Proof.RowSums

@[expose] public section

noncomputable section

open scoped Classical

namespace Cert.KernelIdeal.Run

open Cert.KernelIdeal Cert.KernelIdeal.Gen Idealize.ShloMosaic Idealize.ShloMosaic.TcCoe Idealize.SL.Sem
open Cert.Nucleus

variable {v0 : FVec Ideal S8x3200 .f32} {b : Fin 8} {v : Fin 3136 → ℝ}

/-- A pair of columns holds the real pair `a` in row `b`. -/
def HoldsPair (A : FVec Ideal S8x1 .f32 × FVec Ideal S8x1 .f32) (b : Fin 8) (a : ℝ × ℝ) : Prop :=
  A.1 (ix2 b 0) = ((a.1 : ℝ) : EReal) ∧ A.2 (ix2 b 0) = ((a.2 : ℝ) : EReal)

theorem mid_coe (x y : ℝ) : ((x : EReal) + (y : EReal)) * Ideal.ofBits .f32 0x3F000000#32 = ((mid x y : ℝ) : EReal) := by
  rw [lit_half, ← EReal.coe_add, ← EReal.coe_mul]; rfl

theorem mid_nonneg {x y : ℝ} (hx : 0 ≤ x) (hy : 0 ≤ y) : 0 ≤ mid x y := by unfold mid; linarith

theorem select_of {P : Prop} {c : BitVec 1} (h : c = BitVec.ofBool (decide P)) {α : Type} (x y : α) :
    Scalar.select c x y = if P then x else y := by
  subst h
  by_cases hP : P <;> simp [Scalar.select, hP]

variable {A : FVec Ideal S8x1 .f32 × FVec Ideal S8x1 .f32} {a : ℝ × ℝ}

theorem HoldsPair.half (hA : HoldsPair A b a) : k0_pay7 A.1 A.2 (ix2 b 0) = ((mid a.1 a.2 : ℝ) : EReal) := by
  pointwise [k0_pay7]
  rw [hA.1, hA.2, mid_coe]

theorem HoldsPair.lower (hA : HoldsPair A b a) : k0_pay8 A.1 A.2 (ix2 b 0) = ((mid a.1 (mid a.1 a.2) : ℝ) : EReal) := by
  pointwise [k0_pay8, k0_pay7]
  rw [hA.1, hA.2, mid_coe, mid_coe]

theorem HoldsPair.upper (hA : HoldsPair A b a) : k0_pay9 A.1 A.2 (ix2 b 0) = ((mid (mid a.1 a.2) a.2 : ℝ) : EReal) := by
  pointwise [k0_pay9, k0_pay7]
  rw [hA.1, hA.2, mid_coe, mid_coe]

/-- The first search's test at a point. -/
theorem HoldsRow.light (hx : HoldsRow v0 b v) (hv : ∀ j, OnGrid (v j)) {T : EReal} {t : ℝ} (hT : T = (t : EReal)) (ht : 0 ≤ t) :
    Ideal.div (∑ k : Fin 3200, if T < v0 (ix2 b k) then (if 0 ≤ v0 (ix2 b k) then v0 (ix2 b k) else 0) else 0)
        ((∑ k : Fin 3200, if 0 ≤ v0 (ix2 b k) then v0 (ix2 b k) else 0) + Ideal.ofBits .f32 0x322BCC77#32)
      < Ideal.ofBits .f32 0x3E4CCCCD#32 ↔ light lits v t := by
  rw [hx.massAbove hT ht, hx.total fun j => (hv j).nonneg, lit_guard, lit_share, ← EReal.coe_add]
  have hd := denom_pos lits hv
  rw [show (∑ j, v j) + 11258999 / 2 ^ 50 = denom lits v from rfl, div_coe_coe hd.ne', EReal.coe_lt_coe_iff]
  rfl

theorem bit_congr {P Q : Prop} [Decidable P] (h : P ↔ Q) : BitVec.ofBool (decide P) = BitVec.ofBool (@decide Q (Classical.propDecidable Q)) := by
  by_cases hP : P
  · have hQ := h.1 hP; simp [hP, hQ]
  · have hQ : ¬ Q := fun q => hP (h.2 q)
    simp [hP, hQ]

/-- The three tests of one trip of the first search. -/
theorem HoldsRow.test1 (hx : HoldsRow v0 b v) (hv : ∀ j, OnGrid (v j)) (hA : HoldsPair A b a) (h0 : 0 ≤ a.1) (h1 : 0 ≤ a.2) :
    k0_pay10 v0 A.1 A.2 (ix2 b 0) = BitVec.ofBool (decide (Nucleus.light lits v (mid a.1 (mid a.1 a.2))))
    ∧ k0_pay11 v0 A.1 A.2 (ix2 b 0) = BitVec.ofBool (decide (Nucleus.light lits v (mid a.1 a.2)))
    ∧ k0_pay12 v0 A.1 A.2 (ix2 b 0) = BitVec.ofBool (decide (Nucleus.light lits v (mid (mid a.1 a.2) a.2))) := by
  refine ⟨?_, ?_, ?_⟩
  · have hT := hA.lower
    pointwise [k0_pay10, k0_pay3, k0_pay2, k0_pay4]
    exact bit_congr (hx.light hv hT (mid_nonneg h0 (mid_nonneg h0 h1)))
  · have hT := hA.half
    pointwise [k0_pay11, k0_pay3, k0_pay2, k0_pay4]
    exact bit_congr (hx.light hv hT (mid_nonneg h0 h1))
  · have hT := hA.upper
    pointwise [k0_pay12, k0_pay3, k0_pay2, k0_pay4]
    exact bit_congr (hx.light hv hT (mid_nonneg (mid_nonneg h0 h1) h1))

/-- One trip of the first search. -/
theorem HoldsRow.step1 (hx : HoldsRow v0 b v) (hv : ∀ j, OnGrid (v j)) (hA : HoldsPair A b a) (h0 : 0 ≤ a.1) (h1 : 0 ≤ a.2) :
    HoldsPair (step1 v0 A) b (narrow (Nucleus.light lits v) a) := by
  obtain ⟨t1, t2, t3⟩ := hx.test1 hv hA h0 h1
  have e1 := hA.lower
  have e2 := hA.half
  have e3 := hA.upper
  constructor
  · show k0_pay14 v0 A.1 A.2 (ix2 b 0) = _
    have e : k0_pay14 v0 A.1 A.2 (ix2 b 0)
        = Scalar.select (k0_pay10 v0 A.1 A.2 (ix2 b 0)) (A.1 (ix2 b 0)) (Scalar.select (k0_pay11 v0 A.1 A.2 (ix2 b 0))
          (k0_pay8 A.1 A.2 (ix2 b 0)) (Scalar.select (k0_pay12 v0 A.1 A.2 (ix2 b 0)) (k0_pay7 A.1 A.2 (ix2 b 0)) (k0_pay9 A.1 A.2 (ix2 b 0)))) := rfl
    rw [e, select_of t1, select_of t2, select_of t3, e1, e2, e3, hA.1]
    unfold narrow
    split_ifs <;> rfl
  · show k0_pay13 v0 A.1 A.2 (ix2 b 0) = _
    have e : k0_pay13 v0 A.1 A.2 (ix2 b 0)
        = Scalar.select (k0_pay10 v0 A.1 A.2 (ix2 b 0)) (k0_pay8 A.1 A.2 (ix2 b 0)) (Scalar.select (k0_pay11 v0 A.1 A.2 (ix2 b 0))
          (k0_pay7 A.1 A.2 (ix2 b 0)) (Scalar.select (k0_pay12 v0 A.1 A.2 (ix2 b 0)) (k0_pay9 A.1 A.2 (ix2 b 0)) (A.2 (ix2 b 0)))) := rfl
    rw [e, select_of t1, select_of t2, select_of t3, e1, e2, e3, hA.2]
    unfold narrow
    split_ifs <;> rfl

/-- Both ends of a search stay nonnegative. -/
theorem narrow_nonneg (P : ℝ → Prop) (N : ℕ) : 0 ≤ ((narrow P)^[N] (0, 1)).1 ∧ 0 ≤ ((narrow P)^[N] (0, 1)).2 := by
  obtain ⟨a, -, e, -⟩ := narrow_iterate P N
  rw [e]
  constructor <;> positivity

/-- A search all of whose trips are read as trips of a real search is read as the real search. -/
theorem holds_iterate (f : FVec Ideal S8x1 .f32 × FVec Ideal S8x1 .f32 → FVec Ideal S8x1 .f32 × FVec Ideal S8x1 .f32) (P : ℝ → Prop)
    (hf : ∀ A a, HoldsPair A b a → 0 ≤ a.1 → 0 ≤ a.2 → HoldsPair (f A) b (narrow P a)) (N : ℕ) :
    HoldsPair (f^[N] (k0_pay5, k0_pay6)) b ((narrow P)^[N] (0, 1)) := by
  induction N with
  | zero =>
    constructor
    · show k0_pay5 (ix2 b 0) = _
      pointwise [k0_pay5]
      rfl
    · show k0_pay6 (ix2 b 0) = _
      pointwise [k0_pay6]
      rfl
  | succ N ih =>
    rw [Function.iterate_succ_apply', Function.iterate_succ_apply']
    exact hf _ _ ih (narrow_nonneg P N).1 (narrow_nonneg P N).2

theorem trips1 : k0_t1_loop.trips = 14 := by decide
theorem trips2 : k0_t2_loop.trips = 24 := by decide

/-- What the first search ends at. -/
theorem HoldsRow.search1 (hx : HoldsRow v0 b v) (hv : ∀ j, OnGrid (v j)) :
    (search1 (F := Ideal) v0).2 (ix2 b 0) = ((pivot lits v : ℝ) : EReal) := by
  have h := holds_iterate (b := b) (Run.step1 (F := Ideal) v0) (Nucleus.light lits v) (fun A a hA h0 h1 => hx.step1 hv hA h0 h1) 14
  unfold Run.search1
  rw [trips1]
  exact h.2

theorem pivot_nonneg (v : Fin 3136 → ℝ) : 0 ≤ pivot lits v := (narrow_nonneg _ 14).2

theorem coe_max (x y : ℝ) : max (x : EReal) (y : EReal) = ((max x y : ℝ) : EReal) := (EReal.coe_strictMono.monotone.map_max).symm
theorem coe_min (x y : ℝ) : min (x : EReal) (y : EReal) = ((min x y : ℝ) : EReal) := (EReal.coe_strictMono.monotone.map_min).symm

/-- The kernel's clipped count. -/
theorem HoldsRow.kept (hx : HoldsRow v0 b v) (hv : ∀ j, OnGrid (v j)) {W : FVec Ideal S8x1 .f32} {w : ℝ}
    (hW : W (ix2 b 0) = ((w : ℝ) : EReal)) (hw : 0 ≤ w) :
    k0_pay19 (k0_pay15 v0 W) (k0_pay16 v0 W) (k0_pay17 v0 W) (k0_pay18 W) (ix2 b 0) = ((Nucleus.kept lits v w : ℝ) : EReal) := by
  have e15 : k0_pay15 v0 W (ix2 b 0) = (((Nucleus.above v w : ℕ) : ℝ) : EReal) := by
    pointwise [k0_pay15, k0_pay2]
    exact hx.above hW hw
  have e16 : k0_pay16 v0 W (ix2 b 0) = (((Nucleus.equal v w : ℕ) : ℝ) : EReal) := by
    pointwise [k0_pay16, k0_pay2]
    exact hx.equal hW hw
  have e17 : k0_pay17 v0 W (ix2 b 0) = ((lits.p * denom lits v - Nucleus.massAbove v w : ℝ) : EReal) := by
    pointwise [k0_pay17, k0_pay3, k0_pay2, k0_pay4]
    rw [hx.massAbove hW hw, hx.total fun j => (hv j).nonneg, lit_guard, lit_share, ← EReal.coe_add, ← EReal.coe_mul, ← EReal.coe_sub]
    rfl
  have e18 : k0_pay18 W (ix2 b 0) = ((max w lits.τ : ℝ) : EReal) := by
    pointwise [k0_pay18]
    rw [hW, lit_floor, coe_max]
    rfl
  have hm : max w lits.τ ≠ 0 := (lt_of_lt_of_le (by norm_num [lits]) (le_max_right w lits.τ)).ne'
  pointwise [k0_pay19]
  rw [e15, e16, e17, e18, lit_least, lit_most, div_coe_coe hm, Ideal.liftRound_coe]
  have one : (1 : EReal) = ((1 : ℝ) : EReal) := rfl
  have zero : (0 : EReal) = ((0 : ℝ) : EReal) := rfl
  rw [one, zero]
  simp only [← EReal.coe_sub, ← EReal.coe_add, coe_max, coe_min]
  rfl

theorem HoldsPair.half' (hA : HoldsPair A b a) : k0_pay20 A.1 A.2 (ix2 b 0) = ((mid a.1 a.2 : ℝ) : EReal) := by
  pointwise [k0_pay20]
  rw [hA.1, hA.2, mid_coe]

theorem HoldsPair.lower' (hA : HoldsPair A b a) : k0_pay21 A.1 A.2 (ix2 b 0) = ((mid a.1 (mid a.1 a.2) : ℝ) : EReal) := by
  pointwise [k0_pay21, k0_pay20]
  rw [hA.1, hA.2, mid_coe, mid_coe]

theorem HoldsPair.upper' (hA : HoldsPair A b a) : k0_pay22 A.1 A.2 (ix2 b 0) = ((mid (mid a.1 a.2) a.2 : ℝ) : EReal) := by
  pointwise [k0_pay22, k0_pay20]
  rw [hA.1, hA.2, mid_coe, mid_coe]

/-- The second search's test at a point. -/
theorem HoldsRow.short (hx : HoldsRow v0 b v) {T K : EReal} {t k : ℝ} (hT : T = (t : EReal)) (hK : K = (k : EReal)) (ht : 0 ≤ t) :
    (∑ k : Fin 3200, if T ≤ v0 (ix2 b k) then (1 : EReal) else 0) < K ↔ (Nucleus.atLeast v t : ℝ) < k := by
  rw [hx.atLeast hT ht, hK, EReal.coe_lt_coe_iff]

/-- The three tests of one trip of the second search. -/
theorem HoldsRow.test2 (hx : HoldsRow v0 b v) {c e d f : FVec Ideal S8x1 .f32} {k : ℝ}
    (hk : k0_pay19 c e d f (ix2 b 0) = ((k : ℝ) : EReal)) (hA : HoldsPair A b a) (h0 : 0 ≤ a.1) (h1 : 0 ≤ a.2) :
    k0_pay23 (k0_pay2 v0) c e d f A.1 A.2 (ix2 b 0) = BitVec.ofBool (decide ((Nucleus.atLeast v (mid a.1 (mid a.1 a.2)) : ℝ) < k))
    ∧ k0_pay24 (k0_pay2 v0) c e d f A.1 A.2 (ix2 b 0) = BitVec.ofBool (decide ((Nucleus.atLeast v (mid a.1 a.2) : ℝ) < k))
    ∧ k0_pay25 (k0_pay2 v0) c e d f A.1 A.2 (ix2 b 0) = BitVec.ofBool (decide ((Nucleus.atLeast v (mid (mid a.1 a.2) a.2) : ℝ) < k)) := by
  refine ⟨?_, ?_, ?_⟩
  · have hT := hA.lower'
    pointwise [k0_pay23, k0_pay2]
    exact bit_congr (hx.short hT hk (mid_nonneg h0 (mid_nonneg h0 h1)))
  · have hT := hA.half'
    pointwise [k0_pay24, k0_pay2]
    exact bit_congr (hx.short hT hk (mid_nonneg h0 h1))
  · have hT := hA.upper'
    pointwise [k0_pay25, k0_pay2]
    exact bit_congr (hx.short hT hk (mid_nonneg (mid_nonneg h0 h1) h1))

/-- One trip of the second search. -/
theorem HoldsRow.step2 (hx : HoldsRow v0 b v) {W : FVec Ideal S8x1 .f32} {k : ℝ}
    (hk : k0_pay19 (k0_pay15 v0 W) (k0_pay16 v0 W) (k0_pay17 v0 W) (k0_pay18 W) (ix2 b 0) = ((k : ℝ) : EReal))
    (hA : HoldsPair A b a) (h0 : 0 ≤ a.1) (h1 : 0 ≤ a.2) :
    HoldsPair (step2 v0 W A) b (narrow (fun t => (Nucleus.atLeast v t : ℝ) < k) a) := by
  have e1 := hA.lower'
  have e2 := hA.half'
  have e3 := hA.upper'
  unfold Run.step2
  generalize hc : k0_pay15 v0 W = c at *
  generalize he : k0_pay16 v0 W = e at *
  generalize hd : k0_pay17 v0 W = d at *
  generalize hf : k0_pay18 W = f at *
  obtain ⟨t1, t2, t3⟩ := hx.test2 hk hA h0 h1
  constructor
  · show k0_pay27 (k0_pay2 v0) c e d f A.1 A.2 (ix2 b 0) = _
    have h : k0_pay27 (k0_pay2 v0) c e d f A.1 A.2 (ix2 b 0)
        = Scalar.select (k0_pay23 (k0_pay2 v0) c e d f A.1 A.2 (ix2 b 0)) (A.1 (ix2 b 0))
          (Scalar.select (k0_pay24 (k0_pay2 v0) c e d f A.1 A.2 (ix2 b 0)) (k0_pay21 A.1 A.2 (ix2 b 0))
          (Scalar.select (k0_pay25 (k0_pay2 v0) c e d f A.1 A.2 (ix2 b 0)) (k0_pay20 A.1 A.2 (ix2 b 0)) (k0_pay22 A.1 A.2 (ix2 b 0)))) := rfl
    rw [h, select_of t1, select_of t2, select_of t3, e1, e2, e3, hA.1]
    unfold narrow
    split_ifs <;> rfl
  · show k0_pay26 (k0_pay2 v0) c e d f A.1 A.2 (ix2 b 0) = _
    have h : k0_pay26 (k0_pay2 v0) c e d f A.1 A.2 (ix2 b 0)
        = Scalar.select (k0_pay23 (k0_pay2 v0) c e d f A.1 A.2 (ix2 b 0)) (k0_pay21 A.1 A.2 (ix2 b 0))
          (Scalar.select (k0_pay24 (k0_pay2 v0) c e d f A.1 A.2 (ix2 b 0)) (k0_pay20 A.1 A.2 (ix2 b 0))
          (Scalar.select (k0_pay25 (k0_pay2 v0) c e d f A.1 A.2 (ix2 b 0)) (k0_pay22 A.1 A.2 (ix2 b 0)) (A.2 (ix2 b 0)))) := rfl
    rw [h, select_of t1, select_of t2, select_of t3, e1, e2, e3, hA.2]
    unfold narrow
    split_ifs <;> rfl

/-- The threshold the kernel ends at. -/
theorem HoldsRow.thr (hx : HoldsRow v0 b v) (hv : ∀ j, OnGrid (v j)) :
    thr (F := Ideal) v0 (ix2 b 0) = ((cutoff v (Nucleus.kept lits v (pivot lits v)) : ℝ) : EReal) := by
  have hw := hx.search1 hv
  unfold Run.thr Run.search2
  generalize (Run.search1 (F := Ideal) v0).2 = W at *
  have hk := hx.kept hv hw (pivot_nonneg v)
  have h := holds_iterate (b := b) (Run.step2 (F := Ideal) v0 W)
    (fun t => (Nucleus.atLeast v t : ℝ) < Nucleus.kept lits v (pivot lits v)) (fun A a hA h0 h1 => hx.step2 (a := a) hk hA h0 h1) 24
  rw [trips2]
  exact h.1

end Cert.KernelIdeal.Run

end
-- ==== Proof.RefTerm.lean ====
/- The reference's result, its repeated parts named. -/
module

public import proofs.«01_k».proof.Proof.Gen.ReferenceIdeal.Run
public import Idealize.ShloMosaic.PureOps.Ideal

@[expose] public section

noncomputable section

namespace Cert.ReferenceIdeal.Row

open Cert.ReferenceIdeal Cert.ReferenceIdeal.Gen Idealize.ShloMosaic Idealize.ShloMosaic.TcCoe Idealize.SL.Sem

/-- The scores in descending order, row by row. -/
def desc (x : FVec Ideal S8x1x3136 .f32) : FVec Ideal S8x1x3136 .f32 := Host.reverse [2] (Host.sort S8x1x3136 2 comparator_f32_d2 x)

/-- The running sums. -/
def sums (d : FVec Ideal S8x1x3136 .f32) : FVec Ideal S8x1x3136 .f32 :=
  Host.reduceWindowAdd ![1, 1, 3136] ![1, 1, 1] ![0, 0, 3135] ![0, 0, 0] d (broadcastInDim S_ ![] bcast_S_S_ (constant S_ .f32 0x00000000#32)) reduceWindows_S8x1x3136_S8x1x3136_w1s1p0_0_w1s1p0_0_w3136s1p3135_0 h_S_

/-- Where the running share of the mass is below the bound. -/
def below (cs : FVec Ideal S8x1x3136 .f32) : IVec S8x1x3136 1 :=
  cmpf .olt (Host.divf cs (broadcastInDim S8x1x3136 ![0, 1, 2] bcast_S8x1x1_S8x1x3136_0_1_2 (addf (extractStridedSlice S8x1x1 ![0, 0, 3135] cs slices_S8x1x3136_S8x1x1_0_0_3135) (broadcastInDim S8x1x1 ![] bcast_S_S8x1x1 (constant S_ .f32 0x322BCC77#32))))) (broadcastInDim S8x1x3136 ![] bcast_S_S8x1x3136 (constant S_ .f32 0x3E4CCCCD#32))

/-- The clipped count, less one. -/
def count (w : IVec S8x1x3136 1) : IVec S8x1 32 :=
  subi (minsi (broadcastInDim S8x1 ![] bcast_S_S8x1 (id (constantI S_ 32 1568#32))) (maxsi (broadcastInDim S8x1 ![] bcast_S_S8x1 (id (constantI S_ 32 156#32))) (addi (Host.reduce IntOp.addi (extui 32 w natLt_1_32) (constantI S_ 32 0#32) reducesTo_S8x1x3136_S8x1_d2 h_S_) (broadcastInDim S8x1 ![] bcast_S_S8x1 (constantI S_ 32 1#32))))) (broadcastInDim S8x1 ![] bcast_S_S8x1 (constantI S_ 32 1#32))

/-- The place read, a negative one counted from the end. -/
def place (n : IVec S8x1 32) : IVec S8x1x1 32 :=
  select (cmpi .slt (broadcastInDim S8x1x1 ![0, 1] bcast_S8x1_S8x1x1_0_1 n) (broadcastInDim S8x1x1 ![] bcast_S_S8x1x1 (constantI S_ 32 0#32))) (addi (broadcastInDim S8x1x1 ![0, 1] bcast_S8x1_S8x1x1_0_1 n) (broadcastInDim S8x1x1 ![] bcast_S_S8x1x1 (constantI S_ 32 3136#32))) (broadcastInDim S8x1x1 ![0, 1] bcast_S8x1_S8x1x1_0_1 n)

/-- The sorted score at that place. -/
def pick (d : FVec Ideal S8x1x3136 .f32) (idx : IVec S8x1x1 32) : FVec Ideal S8x1x1 .f32 :=
  select (broadcastInDim S8x1x1 ![0, 2] bcast_S8x1_S8x1x1_0_2 (Host.reduce IntOp.andi (andi (cmpi .sge idx (broadcastInDim S8x1x1 ![] bcast_S_S8x1x1 (constantI S_ 32 0#32))) (cmpi .sle idx (broadcastInDim S8x1x1 ![0, 1, 2] bcast_S1x1x1_S8x1x1_0_1_2 (broadcastInDim S1x1x1 ![2] bcast_S1_S1x1x1_2 (constantI S1 32 3135#32))))) (constantI S_ 1 1#1) reducesTo_S8x1x1_S8x1_d2 h_S_)) (Host.gather gather_S8x1x3136_S8x1x1_S8x1x1_1_2_0_0_2_2_111 d idx) (broadcastInDim S8x1x1 ![] bcast_S_S8x1x1 (constant S_ .f32 0x7FC00000#32))

/-- The row's threshold. -/
def thr (x : FVec Ideal S8x1x3136 .f32) : FVec Ideal S8x1x1 .f32 := pick (desc x) (place (count (below (sums (desc x)))))

/-- The soft mask. -/
def soft (x : FVec Ideal S8x1x3136 .f32) (t : FVec Ideal S8x1x1 .f32) : FVec Ideal S8x1x3136 .f32 :=
  Host.divf (broadcastInDim S8x1x3136 ![] bcast_S_S8x1x3136 (constant S_ .f32 0x3F800000#32)) (addf (broadcastInDim S8x1x3136 ![] bcast_S_S8x1x3136 (constant S_ .f32 0x3F800000#32)) (Host.exp (Host.negf (mulf (broadcastInDim S8x1x3136 ![] bcast_S_S8x1x3136 (constant S_ .f32 0x41200000#32)) (subf (addf (mulf x (broadcastInDim S8x1x3136 ![] bcast_S_S8x1x3136 (constant S_ .f32 0x3DCCCCCD#32))) (mulf x (broadcastInDim S8x1x3136 ![] bcast_S_S8x1x3136 (constant S_ .f32 0x3F666666#32)))) (broadcastInDim S8x1x3136 ![0, 1, 2] bcast_S8x1x1_S8x1x3136_0_1_2 t))))))

/-- The hard mask, passed through the soft one. -/
def hard (s : FVec Ideal S8x1x3136 .f32) : FVec Ideal S8x1x3136 .f32 :=
  addf (subf (uitofp .f32 (cmpf .ogt s (broadcastInDim S8x1x3136 ![] bcast_S_S8x1x3136 (constant S_ .f32 0x3F000000#32)))) s) s

/-- Each mask entry repeated over its block of pixels and over the channels. -/
def spread (k : FVec Ideal S8x1x3136 .f32) : FVec Ideal S8x1x96x224x224 .f32 :=
  broadcastInDim S8x1x96x224x224 ![0, 1, 2, 3, 4] bcast_S8x1x1x224x224_S8x1x96x224x224_0_1_2_3_4 (shapeCast S8x1x1x224x224 (broadcastInDim S8x1x1x224x56x4 ![0, 1, 2, 3, 4] bcast_S8x1x1x224x56_S8x1x1x224x56x4_0_1_2_3_4 (shapeCast S8x1x1x224x56 (broadcastInDim S8x1x1x56x4x56 ![0, 1, 2, 3, 5] bcast_S8x1x1x56x56_S8x1x1x56x4x56_0_1_2_3_5 (shapeCast S8x1x1x56x56 k shapeCasts_S8x1x3136_S8x1x1x56x56)) shapeCasts_S8x1x1x56x4x56_S8x1x1x224x56)) shapeCasts_S8x1x1x224x56x4_S8x1x1x224x224)

/-- The scores, as a row of one channel. -/
def scores (X : FVec Ideal S8x3136 .f32) : FVec Ideal S8x1x3136 .f32 := broadcastInDim S8x1x3136 ![0, 2] bcast_S8x3136_S8x1x3136_0_2 X

set_option maxRecDepth 8192 in
theorem res_eq (m : (ℓ : Loc nD τ sig) → Buf (Elt Ideal) ℓ) (c : Dev nD) :
    Value.res_main_v45 (F := Ideal) m c = spread (hard (soft (scores (m ((c.tc : Thread nD τ).loc main_arg1))) (thr (scores (m ((c.tc : Thread nD τ).loc main_arg1)))))) := rfl

end Cert.ReferenceIdeal.Row

end
-- ==== Proof.CountWord.lean ====
/- The reference's count, in words, and the place it reads. -/
module

public import proofs.«01_k».proof.Proof.RefTerm
public import Idealize.ShloMosaic.Lib.Pointwise
public import Idealize.ShloMosaic.Lib.SortNet.Extract

@[expose] public section

noncomputable section

open scoped Classical

namespace Cert.ReferenceIdeal.Row

open Cert.ReferenceIdeal Cert.ReferenceIdeal.Gen Idealize.ShloMosaic Idealize.ShloMosaic.TcCoe Idealize.SL.Sem

/-- The wrapping sum of the bits that say where `P` holds is the word of the number of places. -/
theorem fold_bits {ι : Type} (s : Finset ι) (P : ι → Prop) (w : ι → BitVec 1) (hw : ∀ i, w i = BitVec.ofBool (decide (P i))) :
    Finset.fold IntOp.addi 0#32 (fun i => BitVec.setWidth 32 (w i)) s = BitVec.ofNat 32 (s.filter P).card := by
  induction s using Finset.induction_on with
  | empty => rfl
  | insert a s ha ih =>
    rw [Finset.fold_insert ha, ih, Finset.filter_insert, hw]
    by_cases hP : P a
    · rw [if_pos hP, Finset.card_insert_of_notMem (fun h => ha (Finset.mem_filter.1 h).1), add_comm, BitVec.ofNat_add]
      simp [hP, IntOp.addi]
    · rw [if_neg hP]
      simp [hP, IntOp.addi]

/-- The signed value of a small word. -/
theorem toInt_small {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

/-- Words of the same signed value are equal. -/
theorem word_of_toInt {w : BitVec 32} {a : ℕ} (h : a < 2 ^ 31) (e : w.toInt = a) : w = BitVec.ofNat 32 a :=
  BitVec.eq_of_toInt_eq (e.trans (toInt_small h).symm)

theorem clip_word {a : ℕ} (ha : a < 2 ^ 31 - 1) :
    IntOp.subi (IntOp.minsi 1568#32 (IntOp.maxsi 156#32 (IntOp.addi (BitVec.ofNat 32 a) 1#32))) 1#32
      = BitVec.ofNat 32 (min 1568 (max 156 (a + 1)) - 1) := by
  have e1 : IntOp.addi (BitVec.ofNat 32 a) 1#32 = BitVec.ofNat 32 (a + 1) := by
    show BitVec.ofNat 32 a + 1#32 = _
    rw [BitVec.ofNat_add]
  have e2 : IntOp.maxsi 156#32 (BitVec.ofNat 32 (a + 1)) = BitVec.ofNat 32 (max 156 (a + 1)) := by
    apply word_of_toInt (by omega)
    rw [SortNet.toInt_maxsi, toInt_small (a := 156) (by omega), toInt_small (a := a + 1) (by omega)]
    push_cast; rfl
  have e3 : IntOp.minsi 1568#32 (BitVec.ofNat 32 (max 156 (a + 1))) = BitVec.ofNat 32 (min 1568 (max 156 (a + 1))) := by
    apply word_of_toInt (by omega)
    rw [SortNet.toInt_minsi, toInt_small (a := 1568) (by omega), toInt_small (a := max 156 (a + 1)) (by omega)]
    push_cast; rfl
  rw [e1, e2, e3]
  show BitVec.ofNat 32 _ - 1#32 = _
  apply BitVec.eq_of_toNat_eq
  have : 1 ≤ min 1568 (max 156 (a + 1)) := by omega
  rw [BitVec.toNat_sub, BitVec.toNat_ofNat, BitVec.toNat_ofNat]
  simp
  omega

/-- The clipped count, less one. -/
theorem count_at (w : IVec S8x1x3136 1) (b : Fin 8) (P : Fin 3136 → Prop) (hw : ∀ i : Fin 3136, w (ix3 b 0 i) = BitVec.ofBool (decide (P i))) :
    count w (ix2 b 0) = BitVec.ofNat 32 (min 1568 (max 156 ((Finset.univ.filter P).card + 1)) - 1) := by
  have hc : (Finset.univ.filter P).card ≤ 3136 := (Finset.card_le_univ _).trans (by simp)
  pointwise [count]
  have h := fold_bits Finset.univ P (fun i => w (ix3 b 0 i)) hw
  have k := clip_word (a := (Finset.univ.filter P).card) (by omega)
  rw [← h] at k
  exact k

/-- The place read is the count itself. -/
theorem place_at (w : IVec S8x1 32) (b : Fin 8) {k : ℕ} (hk : k < 3136) (hw : w (ix2 b 0) = BitVec.ofNat 32 k) :
    place w (ix3 b 0 0) = BitVec.ofNat 32 k := by
  pointwise [place]
  rw [hw]
  have : IntOp.cmpi .slt (BitVec.ofNat 32 k) 0#32 = 0#1 := by
    show BitVec.ofBool (decide ((BitVec.ofNat 32 k).toInt < (0#32 : BitVec 32).toInt)) = 0#1
    rw [toInt_small (by omega), decide_eq_false (show ¬ (k : ℤ) < (0#32 : BitVec 32).toInt by rw [BitVec.toInt_zero]; omega)]
    rfl
  rw [this]
  rfl

end Cert.ReferenceIdeal.Row

end
-- ==== Proof.Pick.lean ====
/- The reference's read of the sorted row at one place per row. -/
module

public import proofs.«01_k».proof.Proof.CountWord
public import Idealize.ShloMosaic.Lib.ReduceAll

@[expose] public section

noncomputable section

namespace Cert.ReferenceIdeal.Row

open Cert.ReferenceIdeal Cert.ReferenceIdeal.Gen Idealize.ShloMosaic Idealize.ShloMosaic.TcCoe Idealize.SL.Sem

/-- The gather reads, in row `b`, the place its index word names, clamped into the row. -/
theorem gather_at (d : FVec Ideal S8x1x3136 .f32) (w : IVec S8x1x1 32) (b : Fin 8) :
    Host.gather gather_S8x1x3136_S8x1x1_S8x1x1_1_2_0_0_2_2_111 d w (ix3 b 0 0)
      = d (ix3 b 0 ⟨min (w (ix3 b 0 0)).toInt.toNat 3135, by omega⟩) := by
  have hsi : ∀ c, gather_S8x1x3136_S8x1x1_S8x1x1_1_2_0_0_2_2_111.siIdx (ix3 b 0 0) c = ix3 b 0 0 := by
    intro c
    funext a; refine Fin.ext ?_
    match a with
    | ⟨0, _⟩ => rfl
    | ⟨1, _⟩ => rfl
    | ⟨2, _⟩ => exact Nat.lt_one_iff.mp c.isLt
  unfold Host.gather
  congr 1
  funext a
  refine Fin.ext ?_
  show gather_S8x1x3136_S8x1x1_S8x1x1_1_2_0_0_2_2_111.start (ix3 b 0 0) w a + gather_S8x1x3136_S8x1x1_S8x1x1_1_2_0_0_2_2_111.batchCoord (ix3 b 0 0) a
      + gather_S8x1x3136_S8x1x1_S8x1x1_1_2_0_0_2_2_111.offCoord (ix3 b 0 0) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (by decide), GatherDims.offCoord_eq_zero _ _ _ (by decide), Nat.zero_add, Nat.add_zero]
    unfold GatherDims.batchCoord
    rw [dif_pos (show (0 : Fin 3) ∈ gather_S8x1x3136_S8x1x1_S8x1x1_1_2_0_0_2_2_111.operandBatchingDims from List.mem_singleton.mpr rfl)]
    rfl
  · rfl
  · rw [GatherDims.batchCoord_eq_zero _ _ _ (by decide), GatherDims.offCoord_eq_zero _ _ _ (by decide)]
    unfold GatherDims.start
    rw [dif_pos (show (2 : Fin 3) ∈ gather_S8x1x3136_S8x1x1_S8x1x1_1_2_0_0_2_2_111.startIndexMap from List.mem_singleton.mpr rfl), hsi]
    rfl

/-- The threshold read at a place inside the row. -/
theorem pick_at (d : FVec Ideal S8x1x3136 .f32) (w : IVec S8x1x1 32) (b : Fin 8) (k : Fin 3136) (hw : w (ix3 b 0 0) = BitVec.ofNat 32 k.val) :
    pick d w (ix3 b 0 0) = d (ix3 b 0 k) := by
  have hk := k.isLt
  pointwise [pick]
  have hin : ∀ x : Fin 1, IntOp.andi (IntOp.cmpi CmpIPredicate.sge (w (ix3 b 0 x)) 0#32) (IntOp.cmpi CmpIPredicate.sle (w (ix3 b 0 x)) 3135#32) = 1#1 := by
    intro x
    rw [Subsingleton.elim x 0, hw]
    have h1 : IntOp.cmpi CmpIPredicate.sge (BitVec.ofNat 32 k.val) 0#32 = 1#1 := by
      show BitVec.ofBool (decide ((0#32 : BitVec 32).toInt ≤ (BitVec.ofNat 32 k.val).toInt)) = 1#1
      rw [toInt_small (a := k.val) (by omega), decide_eq_true (by rw [BitVec.toInt_zero]; omega)]
      rfl
    have h2 : IntOp.cmpi CmpIPredicate.sle (BitVec.ofNat 32 k.val) 3135#32 = 1#1 := by
      show BitVec.ofBool (decide ((BitVec.ofNat 32 k.val).toInt ≤ (BitVec.ofNat 32 3135).toInt)) = 1#1
      rw [toInt_small (by omega), toInt_small (by omega), decide_eq_true (by omega)]
      rfl
    rw [h1, h2]
    rfl
  have hf : Finset.fold IntOp.andi (1#1) (fun x : Fin 1 => IntOp.andi (IntOp.cmpi CmpIPredicate.sge (w (ix3 b 0 x)) 0#32)
      (IntOp.cmpi CmpIPredicate.sle (w (ix3 b 0 x)) 3135#32)) Finset.univ = 1#1 := by
    simp only [hin]
    rfl
  have hg : Host.gather gather_S8x1x3136_S8x1x1_S8x1x1_1_2_0_0_2_2_111 d w (ix3 b 0 0) = d (ix3 b 0 k) := by
    rw [gather_at]
    congr 2
    apply Fin.ext
    show min (w (ix3 b 0 0)).toInt.toNat 3135 = k.val
    rw [hw, toInt_small (by omega), Int.toNat_natCast]
    omega
  exact (congrArg (fun q => Scalar.select q _ _) hf).trans hg

end Cert.ReferenceIdeal.Row

end
-- ==== Proof.RunningSum.lean ====
/- The reference's running sum along the last axis, read as a sum of the leading entries. -/
module

public import Idealize.ShloMosaic.Lib.Pointwise

@[expose] public section

noncomputable section

namespace Cert.ReferenceIdeal.Row

open Idealize.ShloMosaic

/-- A left fold of additions is a sum. -/
theorem foldl_add_eq_sum {M : ℕ} (g : Fin M → EReal) : (List.finRange M).foldl (fun r k => r + g k) 0 = ∑ k, g k := by
  rw [← List.foldl_map (f := g) (g := fun r t => r + t), ← List.sum_eq_foldl, ← List.ofFn_eq_map, List.sum_ofFn]

/-- A window of `m + 1` places that ends at place `i` covers the places up to `i`. -/
theorem window_sum {m : ℕ} (x : Fin (m + 1) → EReal) (i : Fin (m + 1)) :
    (∑ k : Fin (m + 1), if h : m ≤ i.val + k.val ∧ i.val + k.val - m < m + 1 then x ⟨i.val + k.val - m, h.2⟩ else 0)
      = ∑ k, if k ≤ i then x k else 0 := by
  have hi := i.isLt
  rw [← Finset.sum_filter]
  have e : ∀ k : Fin (m + 1), (if h : m ≤ i.val + k.val ∧ i.val + k.val - m < m + 1 then x ⟨i.val + k.val - m, h.2⟩ else 0)
      = if m ≤ i.val + k.val then x (Fin.ofNat (m + 1) (i.val + k.val - m)) else 0 := by
    intro k
    have hk := k.isLt
    by_cases h : m ≤ i.val + k.val
    · rw [dif_pos ⟨h, by omega⟩, if_pos h]
      congr 1
      exact Fin.ext (Nat.mod_eq_of_lt (by omega)).symm
    · rw [dif_neg fun q => h q.1, if_neg h]
  rw [Finset.sum_congr rfl fun k _ => e k, ← Finset.sum_filter]
  refine Finset.sum_nbij' (fun k => Fin.ofNat (m + 1) (i.val + k.val - m)) (fun k => Fin.ofNat (m + 1) (m + k.val - i.val)) ?_ ?_ ?_ ?_ ?_
  · intro k hk
    have := k.isLt
    simp only [Finset.mem_filter, Finset.mem_univ, true_and, Fin.le_def, Fin.val_ofNat] at hk ⊢
    rw [Nat.mod_eq_of_lt (by omega)]; omega
  · intro k hk
    have := k.isLt
    simp only [Finset.mem_filter, Finset.mem_univ, true_and, Fin.le_def, Fin.val_ofNat] at hk ⊢
    rw [Nat.mod_eq_of_lt (by omega)]; omega
  · intro k hk
    have := k.isLt
    simp only [Finset.mem_filter, Finset.mem_univ, true_and] at hk
    apply Fin.ext
    simp only [Fin.val_ofNat]
    rw [Nat.mod_eq_of_lt (a := i.val + k.val - m) (by omega), Nat.mod_eq_of_lt (by omega)]; omega
  · intro k hk
    have := k.isLt
    simp only [Finset.mem_filter, Finset.mem_univ, true_and, Fin.le_def] at hk
    apply Fin.ext
    simp only [Fin.val_ofNat]
    rw [Nat.mod_eq_of_lt (a := m + k.val - i.val) (by omega), Nat.mod_eq_of_lt (by omega)]; omega
  · intro k _; rfl

/-- The running sum along the last axis. -/
theorem running_sum {m : ℕ} (x : FVec Ideal ⟨3, ![8, 1, m + 1]⟩ .f32) (init : FVec Ideal ⟨0, ![]⟩ .f32)
    (h : (⟨3, ![8, 1, m + 1]⟩ : Shape).ReduceWindows ![1, 1, m + 1] ![1, 1, 1] ![0, 0, m] ![0, 0, 0] ⟨3, ![8, 1, m + 1]⟩)
    (hu : 0 < (⟨0, ![]⟩ : Shape).numel) (hinit : ∀ j, init j = (0 : EReal)) (b : Fin 8) (i : Fin (m + 1)) :
    Host.reduceWindowAdd ![1, 1, m + 1] ![1, 1, 1] ![0, 0, m] ![0, 0, 0] x init h hu (ix3 b 0 i)
      = ∑ k : Fin (m + 1), if k ≤ i then (x (ix3 b 0 k) : EReal) else 0 := by
  unfold Host.reduceWindowAdd
  rw [Ideal.hostReduceWindowAdd_def, hinit]
  unfold Ideal.hostReduceWindowAdd Host.reduceWindow
  dsimp only
  rw [foldl_add_eq_sum, ← window_sum fun k => (x (ix3 b 0 k) : EReal)]
  rw [← Equiv.sum_comp (Shape.rowMajor ⟨3, ![1, 1, m + 1]⟩)]
  simp only [Equiv.symm_apply_apply]
  refine (sum_idx3 (n0 := 1) (n1 := 1) (n2 := m + 1) _).trans ?_
  rw [Fin.sum_univ_one, Fin.sum_univ_one]
  refine Finset.sum_congr rfl fun k _ => ?_
  have hi := i.isLt
  have hk := k.isLt
  by_cases hin : m ≤ i.val + k.val ∧ i.val + k.val - m < m + 1
  · rw [dif_pos hin]
    refine (dif_pos fun a => ?_).trans (congrArg x (funext fun a => Fin.ext ?_))
    · match a with
      | ⟨0, _⟩ => show 0 ≤ b.val * 1 + 0 ∧ b.val * 1 + 0 - 0 < 8; omega
      | ⟨1, _⟩ => show 0 ≤ 0 * 1 + 0 ∧ 0 * 1 + 0 - 0 < 1; omega
      | ⟨2, _⟩ => show m ≤ i.val * 1 + k.val ∧ i.val * 1 + k.val - m < m + 1; omega
    · match a with
      | ⟨0, _⟩ => show b.val * 1 + 0 - 0 = b.val; omega
      | ⟨1, _⟩ => rfl
      | ⟨2, _⟩ => show i.val * 1 + k.val - m = i.val + k.val - m; omega
  · rw [dif_neg hin, dif_neg]
    intro q
    have q2 : m ≤ i.val * 1 + k.val ∧ i.val * 1 + k.val - m < m + 1 := q 2
    exact hin (by omega)

end Cert.ReferenceIdeal.Row

end
-- ==== Proof.SortRow.lean ====
/- The reference's sorted row: the row's scores in descending order, rearranged by a permutation. -/
module

public import proofs.«01_k».proof.ReferenceIdeal
public import Idealize.ShloMosaic.Lib.Pointwise
public import Idealize.ShloMosaic.Lib.SortFacts
public import Mathlib.Data.EReal.Basic
public import Mathlib.Tactic.Linarith

@[expose] public section

noncomputable section

namespace Cert.ReferenceIdeal.Row

open Cert.ReferenceIdeal Idealize.ShloMosaic

/-- Between reals the sort's comparison is `<`. -/
theorem comparator_coe (x y : ℝ) : (comparator_f32_d2 (F := Ideal) (x : EReal) (y : EReal) == 1#1) = decide (x < y) := by
  have h : comparator_f32_d2 (F := Ideal) (x : EReal) (y : EReal) = BitVec.ofBool (decide ((x : EReal) < (y : EReal))) := by
    unfold comparator_f32_d2
    have hs : ∀ z : ℝ, Scalar.select (FloatOps.cmpf (F := Ideal) (φ := .f32) .oeq (z : EReal) (FloatOps.ofBits .f32 0x00000000#32))
        (FloatOps.ofBits (F := Ideal) .f32 0x00000000#32) (z : EReal) = (z : EReal) := by
      intro z
      simp only [Scalar.select, Ideal.cmpf_def, Ideal.cmp]
      by_cases hz : z = 0 <;> simp [hz]
    have hn : ∀ z : ℝ, FloatOps.cmpf (F := Ideal) (φ := .f32) .une (z : EReal) (z : EReal) = 0#1 := by
      intro z; simp [Ideal.cmpf_def, Ideal.cmp]
    dsimp only
    rw [hs, hs, hn, hn]
    rfl
  rw [h]
  by_cases hxy : x < y <;> simp [hxy]

variable {n : ℕ}

/-- Along the last axis, the index moves to the given place. -/
theorem along_two (b : Fin 8) (i k : Fin n) :
    Shape.Idx.along (s := ⟨3, ![8, 1, n]⟩) (ix3 b 0 i) 2 k = ix3 b 0 k := by
  funext a
  match a with
  | ⟨0, _⟩ => rfl
  | ⟨1, _⟩ => rfl
  | ⟨2, _⟩ => rfl

/-- The stable sort's positions, as a permutation that puts the scores in ascending order. -/
theorem ascending (v : Fin n → ℝ) : ∃ π : Equiv.Perm (Fin n), (∀ i j, i ≤ j → v (π i) ≤ v (π j))
    ∧ ∀ i, π i = sortedFrom (fun k k' => decide (v k < v k')) i := by
  refine ⟨Equiv.ofBijective _ ⟨sortedFrom_injective fun k k' => decide (v k < v k'), sortedFrom_surjective _⟩, ?_, fun i => rfl⟩
  intro i j hij
  rcases hij.lt_or_eq with hij | rfl
  · have h := sortedFrom_noInversion (fun k k' => decide (v k < v k')) (fun k k' => decide (v k < v k'))
      (fun a b h => by simp only [decide_eq_true_eq, decide_eq_false_iff_not] at *; linarith)
      (fun a b h => h) (fun a b c h1 h2 => by simp only [decide_eq_false_iff_not] at *; linarith) i j hij
    exact not_lt.mp (of_decide_eq_false h)
  · exact le_refl _

/-- The sort along the last axis, at an index. -/
theorem sort_at (x : FVec Ideal ⟨3, ![8, 1, n]⟩ .f32) (b : Fin 8) (v : Fin n → ℝ)
    (hx : ∀ k : Fin n, x (ix3 b 0 k) = ((v k : ℝ) : EReal)) (i : Fin n) :
    Host.sort ⟨3, ![8, 1, n]⟩ 2 comparator_f32_d2 x (ix3 b 0 i)
      = ((v (sortedFrom (fun k k' => decide (v k < v k')) i) : ℝ) : EReal) := by
  have hc : (fun k k' : Fin n => comparator_f32_d2 (x (Shape.Idx.along (s := ⟨3, ![8, 1, n]⟩) (ix3 b 0 i) 2 k))
      (x (Shape.Idx.along (s := ⟨3, ![8, 1, n]⟩) (ix3 b 0 i) 2 k')) == 1#1) = fun k k' => decide (v k < v k') := by
    funext k k'
    rw [along_two, along_two, hx, hx, comparator_coe]
  have e : Host.sort ⟨3, ![8, 1, n]⟩ 2 comparator_f32_d2 x (ix3 b 0 i)
      = x (Shape.Idx.along (s := ⟨3, ![8, 1, n]⟩) (ix3 b 0 i) 2 (sortedFrom (fun k k' : Fin n =>
          comparator_f32_d2 (x (Shape.Idx.along (s := ⟨3, ![8, 1, n]⟩) (ix3 b 0 i) 2 k))
          (x (Shape.Idx.along (s := ⟨3, ![8, 1, n]⟩) (ix3 b 0 i) 2 k')) == 1#1) i)) := rfl
  exact e.trans ((congrArg (fun R : Fin n → Fin n → Bool => x (Shape.Idx.along (s := ⟨3, ![8, 1, n]⟩) (ix3 b 0 i) 2 (sortedFrom R i))) hc).trans
    ((congrArg x (along_two b i _)).trans (hx _)))

/-- The row's scores in descending order. -/
theorem sorted_row (x : FVec Ideal ⟨3, ![8, 1, n]⟩ .f32) (b : Fin 8) (v : Fin n → ℝ)
    (hx : ∀ k : Fin n, x (ix3 b 0 k) = ((v k : ℝ) : EReal)) :
    ∃ σ : Equiv.Perm (Fin n), (Antitone fun i => v (σ i))
      ∧ ∀ i : Fin n, Host.reverse [2] (Host.sort ⟨3, ![8, 1, n]⟩ 2 comparator_f32_d2 x) (ix3 b 0 i) = ((v (σ i) : ℝ) : EReal) := by
  obtain ⟨π, hm, hπ⟩ := ascending v
  refine ⟨Fin.revPerm.trans π, fun i j hij => hm _ _ (Fin.rev_le_rev.mpr hij), fun i => ?_⟩
  have e : Host.reverse [2] (Host.sort ⟨3, ![8, 1, n]⟩ 2 comparator_f32_d2 x) (ix3 b 0 i)
      = Host.sort ⟨3, ![8, 1, n]⟩ 2 comparator_f32_d2 x (ix3 b 0 i.rev) := by
    unfold Host.reverse
    congr 1
    funext a
    match a with
    | ⟨0, _⟩ => rfl
    | ⟨1, _⟩ => rfl
    | ⟨2, _⟩ => rfl
  rw [e, sort_at x b v hx, ← hπ]
  rfl

end Cert.ReferenceIdeal.Row

end
-- ==== Proof.RefRow.lean ====
/- The reference's threshold of a row, as the kernel's two searches would find it. -/
module

public import proofs.«01_k».proof.Proof.Pick
public import proofs.«01_k».proof.Proof.RunningSum
public import proofs.«01_k».proof.Proof.SortRow
public import proofs.«01_k».proof.Proof.Literals

@[expose] public section

noncomputable section

open scoped Classical

namespace Cert.ReferenceIdeal.Row

open Cert.ReferenceIdeal Cert.ReferenceIdeal.Gen Idealize.ShloMosaic Idealize.ShloMosaic.TcCoe Idealize.SL.Sem
open Cert.Nucleus

theorem real_sum {ι : Type} (s : Finset ι) (f : ι → ℝ) : ((∑ i ∈ s, f i : ℝ) : EReal) = ∑ i ∈ s, ((f i : ℝ) : EReal) := by
  induction s using Finset.induction_on with
  | empty => simp
  | insert a s ha ih => rw [Finset.sum_insert ha, Finset.sum_insert ha, EReal.coe_add, ih]

/-- The running sums of a row of reals. -/
theorem sums_at (d : FVec Ideal S8x1x3136 .f32) (b : Fin 8) (f : Fin 3136 → ℝ) (hd : ∀ k : Fin 3136, d (ix3 b 0 k) = ((f k : ℝ) : EReal))
    (i : Fin 3136) : sums d (ix3 b 0 i) = ((mass f (i.val + 1) : ℝ) : EReal) := by
  unfold sums
  refine (running_sum (m := 3135) d _ _ _ (fun j => ?_) b i).trans ?_
  · pointwise
  · unfold mass
    rw [real_sum]
    refine Finset.sum_congr rfl fun k _ => ?_
    by_cases h : k ≤ i
    · rw [if_pos h, if_pos (Nat.lt_succ_of_le h), hd]
    · rw [if_neg h, if_neg (fun q => h (Nat.le_of_lt_succ q)), EReal.coe_zero]

/-- Where the running share is below the bound. -/
theorem below_at (cs : FVec Ideal S8x1x3136 .f32) (b : Fin 8) (f : Fin 3136 → ℝ) (hf : 0 ≤ mass f 3136)
    (hc : ∀ k : Fin 3136, cs (ix3 b 0 k) = ((mass f (k.val + 1) : ℝ) : EReal)) (i : Fin 3136) :
    below cs (ix3 b 0 i) = BitVec.ofBool (decide (mass f (i.val + 1) / (mass f 3136 + lits.ε) < lits.p)) := by
  have hpos : mass f 3136 + lits.ε ≠ 0 := (add_pos_of_nonneg_of_pos hf lits.ε_pos).ne'
  pointwise [below]
  have e : Ideal.div (cs (ix3 b 0 i)) (cs (ix3 b 0 3135) + Ideal.ofBits FTy.f32 841731191#32) = ((mass f (i.val + 1) / (mass f 3136 + lits.ε) : ℝ) : EReal) := by
    rw [hc, hc, lit_guard, ← EReal.coe_add]
    refine (Ideal.div_coe hpos _).trans ?_
    rw [← EReal.coe_mul, mul_one_div]
  have q : Ideal.div (cs (ix3 b 0 i)) (cs (ix3 b 0 3135) + Ideal.ofBits FTy.f32 841731191#32) < Ideal.ofBits FTy.f32 1045220557#32
      ↔ mass f (i.val + 1) / (mass f 3136 + lits.ε) < lits.p := by
    rw [e, lit_share, EReal.coe_lt_coe_iff]
    rfl
  by_cases hP : mass f (i.val + 1) / (mass f 3136 + lits.ε) < lits.p
  · rw [decide_eq_true (q.2 hP), decide_eq_true hP]
  · rw [decide_eq_false (fun h => hP (q.1 h)), decide_eq_false hP]

/-- The reference's threshold. -/
theorem thr_at (x : FVec Ideal S8x1x3136 .f32) (b : Fin 8) (v : Fin 3136 → ℝ)
    (hx : ∀ k : Fin 3136, x (ix3 b 0 k) = ((v k : ℝ) : EReal)) (hv : ∀ k, OnGrid (v k)) :
    thr x (ix3 b 0 0) = ((cutoff v (kept lits v (pivot lits v)) : ℝ) : EReal) := by
  obtain ⟨σ, hσ, hd⟩ := sorted_row x b v hx
  have hf : 0 ≤ mass (fun i => v (σ i)) 3136 := by
    rw [mass_all]
    exact Finset.sum_nonneg fun i _ => (hv (σ i)).nonneg
  have hs := sums_at (desc x) b (fun i => v (σ i)) hd
  have hn := count_at (below (sums (desc x))) b _ (below_at _ b _ hf hs)
  have hn' : count (below (sums (desc x))) (ix2 b 0) = BitVec.ofNat 32 (min 1568 (max 156 (counted lits (fun i => v (σ i)) + 1)) - 1) := hn
  have hk : min 1568 (max 156 (counted lits (fun i => v (σ i)) + 1)) - 1 < 3136 := by omega
  have hp := place_at _ b hk hn'
  have ht := pick_at (desc x) _ b ⟨_, hk⟩ hp
  refine (ht.trans (hd _)).trans ?_
  rw [cutoff_eq lits hv (by norm_num) σ hσ ⟨_, hk⟩ (by show _ - 1 + 1 = _; omega)]

end Cert.ReferenceIdeal.Row

end
-- ==== Proof.Spread.lean ====
/- The reference's repetition of the mask over pixels and channels, at an index. -/
module

public import proofs.«01_k».proof.Proof.RefTerm
public import Idealize.ShloMosaic.Lib.Pointwise

@[expose] public section

noncomputable section

namespace Cert.ReferenceIdeal.Row

open Cert.ReferenceIdeal Cert.ReferenceIdeal.Gen Idealize.ShloMosaic Idealize.ShloMosaic.TcCoe Idealize.SL.Sem

theorem channels_at (d : FVec Ideal S8x1x1x224x224 .f32) (b : Fin 8) (h : Fin 96) (y z : Fin 224) :
    broadcastInDim S8x1x96x224x224 ![0, 1, 2, 3, 4] bcast_S8x1x1x224x224_S8x1x96x224x224_0_1_2_3_4 d (ix5 b 0 h y z) = d (ix5 b 0 0 y z) := by
  pointwise

theorem joinCols_at (d : FVec Ideal S8x1x1x224x56x4 .f32) (b : Fin 8) (y z : Fin 224) :
    shapeCast S8x1x1x224x224 d shapeCasts_S8x1x1x224x56x4_S8x1x1x224x224 (ix5 b 0 0 y z)
      = d (ix6 b 0 0 y ⟨z.val / 4, by omega⟩ ⟨z.val % 4, by omega⟩) := by
  pointwise

theorem repeatCols_at (d : FVec Ideal S8x1x1x224x56 .f32) (b : Fin 8) (y : Fin 224) (z : Fin 56) (k : Fin 4) :
    broadcastInDim S8x1x1x224x56x4 ![0, 1, 2, 3, 4] bcast_S8x1x1x224x56_S8x1x1x224x56x4_0_1_2_3_4 d (ix6 b 0 0 y z k) = d (ix5 b 0 0 y z) := by
  pointwise

theorem joinRows_at (d : FVec Ideal S8x1x1x56x4x56 .f32) (b : Fin 8) (y : Fin 224) (z : Fin 56) :
    shapeCast S8x1x1x224x56 d shapeCasts_S8x1x1x56x4x56_S8x1x1x224x56 (ix5 b 0 0 y z)
      = d (ix6 b 0 0 ⟨y.val / 4, by omega⟩ ⟨y.val % 4, by omega⟩ z) := by
  pointwise

theorem repeatRows_at (d : FVec Ideal S8x1x1x56x56 .f32) (b : Fin 8) (y z : Fin 56) (k : Fin 4) :
    broadcastInDim S8x1x1x56x4x56 ![0, 1, 2, 3, 5] bcast_S8x1x1x56x56_S8x1x1x56x4x56_0_1_2_3_5 d (ix6 b 0 0 y k z) = d (ix5 b 0 0 y z) := by
  pointwise

theorem grid_at (d : FVec Ideal S8x1x3136 .f32) (b : Fin 8) (y z : Fin 56) :
    shapeCast S8x1x1x56x56 d shapeCasts_S8x1x3136_S8x1x1x56x56 (ix5 b 0 0 y z) = d (ix3 b 0 ⟨y.val * 56 + z.val, by omega⟩) := by
  pointwise

/-- Each pixel reads the mask entry of its 4 by 4 block. -/
theorem spread_at (d : FVec Ideal S8x1x3136 .f32) (b : Fin 8) (h : Fin 96) (y z : Fin 224) :
    spread d (ix5 b 0 h y z) = d (ix3 b 0 ⟨y.val / 4 * 56 + z.val / 4, by omega⟩) := by
  unfold spread
  rw [channels_at, joinCols_at, repeatCols_at, joinRows_at, repeatRows_at, grid_at]

end Cert.ReferenceIdeal.Row

end
-- ==== Proof.RefMask.lean ====
/- The reference's result at a pixel. -/
module

public import proofs.«01_k».proof.Proof.RefRow
public import proofs.«01_k».proof.Proof.Spread
public import proofs.«01_k».proof.Proof.MaskEntry

@[expose] public section

noncomputable section

namespace Cert.ReferenceIdeal.Row

open Cert.ReferenceIdeal Cert.ReferenceIdeal.Gen Idealize.ShloMosaic Idealize.ShloMosaic.TcCoe Idealize.SL.Sem
open Cert.Nucleus

theorem hard_at (x : FVec Ideal S8x1x3136 .f32) (t : FVec Ideal S8x1x1 .f32) (b : Fin 8) (i : Fin 3136) :
    hard (soft x t) (ix3 b 0 i) = maskEntry (x (ix3 b 0 i)) (t (ix3 b 0 0)) := by
  pointwise [hard, soft]
  rfl

theorem scores_at (X : FVec Ideal S8x3136 .f32) (b : Fin 8) (i : Fin 3136) : scores X (ix3 b 0 i) = X (ix2 b i) := by
  pointwise [scores]

/-- The reference's result: the mask entry of the pixel's score and its row's threshold. -/
theorem result_at (X : FVec Ideal S8x3136 .f32) (b : Fin 8) (v : Fin 3136 → ℝ) (hX : ∀ k : Fin 3136, X (ix2 b k) = ((v k : ℝ) : EReal))
    (hv : ∀ k, OnGrid (v k)) (h : Fin 96) (y z : Fin 224) :
    spread (hard (soft (scores X) (thr (scores X)))) (ix5 b 0 h y z)
      = maskEntry (X (ix2 b ⟨y.val / 4 * 56 + z.val / 4, by omega⟩)) ((cutoff v (kept lits v (pivot lits v)) : ℝ) : EReal) := by
  rw [spread_at, hard_at, scores_at, thr_at (scores X) b v (fun k => (scores_at X b k).trans (hX k)) hv]

end Cert.ReferenceIdeal.Row

end
-- ==== Proof.Value.lean ====
/- The kernel's result is the reference's. -/
module

public import proofs.«01_k».proof.Proof.Entry
public import proofs.«01_k».proof.Proof.Search
public import proofs.«01_k».proof.Proof.RefMask

@[expose] public section

noncomputable section

namespace Cert.KernelIdeal.Run

open Cert.KernelIdeal Cert.KernelIdeal.Gen Idealize.ShloMosaic Idealize.ShloMosaic.TcCoe Idealize.SL.Sem
open Cert.Nucleus

/-- The kernel's result array: one mask per row of scores, the same for every channel. -/
abbrev masks (T : Fin 8 → FVec Ideal S1x224x224 .f32) : FVec Ideal S8x1x96x224x224 .f32 :=
  broadcastInDim S8x1x96x224x224 ![0, 2, 3, 4] bcast_S8x96x224x224_S8x1x96x224x224_0_2_3_4 (res T)

theorem masks_at (T : Fin 8 → FVec Ideal S1x224x224 .f32) (b : Fin 8) (h : Fin 96) (y z : Fin 224) :
    masks T (ix5 b 0 h y z) = T b (ix3 0 y z) := by
  have e : masks T (ix5 b 0 h y z) = res T (ix4 b h y z) := by
    unfold masks
    pointwise
  rw [e]
  exact congrArg (T b) (funext fun a => by fin_cases a <;> rfl)

variable (m : (ℓ : Loc nD τ sig) → Buf (Elt Ideal) ℓ)

/-- On scores of the grid the kernel's result is the reference's, pixel by pixel. -/
theorem masks_eq (c : Dev nD) (hX : ∀ (b : Fin 8) (k : Fin 3136), ∃ r : ℝ, scores m c (ix2 b k) = (r : EReal) ∧ OnGrid r) :
    masks (TT m c) = ReferenceIdeal.Row.spread (ReferenceIdeal.Row.hard (ReferenceIdeal.Row.soft (ReferenceIdeal.Row.scores (scores m c))
      (ReferenceIdeal.Row.thr (ReferenceIdeal.Row.scores (scores m c))))) := by
  choose v hv using hX
  funext i
  obtain ⟨b, u, h, y, z, rfl⟩ : ∃ (b : Fin 8) (u : Fin 1) (h : Fin 96) (y z : Fin 224), i = ix5 b u h y z :=
    ⟨i 0, i 1, i 2, i 3, i 4, funext fun a => by fin_cases a <;> rfl⟩
  obtain rfl : u = 0 := Subsingleton.elim _ _
  refine (masks_at _ b h y z).trans (Eq.trans ?_
    (ReferenceIdeal.Row.result_at (scores m c) b (v b) (fun k => (hv b k).1) (fun k => (hv b k).2) h y z).symm)
  unfold TT
  rw [tile_at (expands m c), grid_at, (holdsRow m c b (v b) fun k => (hv b k).1).thr fun k => (hv b k).2]

end Cert.KernelIdeal.Run

end
-- ==== Proof.lean ====
/- The proof of the certificate's claims, assembled from the modules under Proof/. -/
module

public import proofs.«01_k».proof.Defs
public import proofs.«01_k».proof.Proof.Launch
public import proofs.«01_k».proof.Proof.LaunchIdeal
public import proofs.«01_k».proof.Proof.FrameReference
public import proofs.«01_k».proof.Proof.Grid
public import proofs.«01_k».proof.Proof.Value

@[expose] public section

noncomputable section

namespace Cert.Proof

open Idealize.ShloMosaic

/-- On scores of the grid, the kernel and the reference end with the same masks. -/
theorem algebraic : Cert.algebraic_KernelIdeal_ReferenceIdeal_pre_scores_on_grid (hKernelIdeal := Cert.KernelIdeal.Gen.facts)
    (hReferenceIdeal := Cert.ReferenceIdeal.Gen.facts) (hPre_scores_on_grid := Cert.Pre_scores_on_grid.facts) := by
  intro m g m' g' hpre hagree
  refine ⟨fun c => Cert.KernelIdeal.Run.masks (Cert.KernelIdeal.Run.TT m c), Cert.KernelIdeal.Run.value_run m g, ?_⟩
  refine (θ_run Cert.ReferenceIdeal.defs _ _).mono (fun r h c => ⟨(h c).1.trans ?_, (h c).2⟩)
    (Cert.ReferenceIdeal.Value.run (F := Ideal) m' g')
  have e := Cert.KernelIdeal.Run.masks_eq m c
    (@Cert.Pre_scores_on_grid.onGrid Cert.Pre_scores_on_grid.facts _ _ (hpre c))
  refine (Cert.ReferenceIdeal.Row.res_eq m' c).trans (Eq.trans ?_ e.symm)
  rw [(hagree c).2]

/-- Every claim of the certificate. -/
theorem claim : Cert.Claim :=
  ⟨Cert.Kernel.Gen.facts, Cert.KernelIdeal.Gen.facts, Cert.ReferenceIdeal.Gen.facts, Cert.Pre_scores_on_grid.facts,
    fun m ρ _ => Cert.Kernel.Run.frame_run m ρ, fun m ρ _ => Cert.KernelIdeal.Run.frame_run m ρ,
    fun m ρ _ => Cert.KernelIdeal.Run.frame_run m ρ, frame_reference,
    fun m ρ _ => frame_reference m ρ True.intro, trivial, algebraic⟩

end Cert.Proof

end
